-- ==== Defs.lean ====
def Pre_Kernel [hPre_onsets_in_range : Cert.Pre_onsets_in_range.Facts] (m : (ℓ : Loc Cert.Kernel.nD Cert.Kernel.τ Cert.Kernel.sig) → Buf (Elt Bits) ℓ) : Prop :=
  ∀ c : Dev Cert.Kernel.nD,
    (Cert.Pre_onsets_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_onsets_in_range : Cert.Pre_onsets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_onsets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_onsets_in_range : Cert.Pre_onsets_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_onsets_in_range : Cert.Pre_onsets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "pi" .f32 0x40490FDB#32 ((Real.pi : ℝ) : EReal)
  ∧ IdealRules.named_const.Statement Cert.KernelIdeal.κ "inv_sr" .f32 0x37BE37C6#32 ((1 / 44100 : ℝ) : EReal)
  ∧ IdealRules.named_const.Statement Cert.KernelIdeal.κ "half_dur" .f32 0x3E3E37C6#32 ((2048 / 11025 : ℝ) : EReal)
  ∧ IdealRules.named_const.Statement Cert.KernelIdeal.κ "two_pi" .f32 0x40C90FDB#32 ((2 * Real.pi : ℝ) : EReal)

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_onsets_in_range : Cert.Pre_onsets_in_range.Facts) (hPre_admissible : Cert.Pre_admissible.Facts),
    quiescent_Kernel (hKernel := hKernel) (hPre_onsets_in_range := hPre_onsets_in_range)
    ∧ quiescent_KernelIdeal (hKernelIdeal := hKernelIdeal) (hPre_onsets_in_range := hPre_onsets_in_range)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S_ : Shape := ⟨0, ![]⟩
abbrev S4096 : Shape := ⟨1, ![4096]⟩
abbrev S16384 : Shape := ⟨1, ![16384]⟩
abbrev S4096x1 : Shape := ⟨2, ![4096, 1]⟩
abbrev S1x16384 : Shape := ⟨2, ![1, 16384]⟩
abbrev S4096x16384 : Shape := ⟨2, ![4096, 16384]⟩
abbrev S524288 : Shape := ⟨1, ![524288]⟩
abbrev S4096x16384x1 : Shape := ⟨3, ![4096, 16384, 1]⟩

class Facts : Prop where
  bcast_S_S4096 : S_.BroadcastsInDim S4096 (![] : Fin 0 → Fin S4096.rank)
  reducesTo_S4096_S_d0 : S4096.ReducesTo [0] S_
  h_S_ : 0 < S_.numel
  bcast_S_S16384 : S_.BroadcastsInDim S16384 (![] : Fin 0 → Fin S16384.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S16384_S1x16384_1 : S16384.BroadcastsInDim S1x16384 (![1] : Fin 1 → Fin S1x16384.rank)
  bcast_S4096x1_S4096x16384_0_1 : S4096x1.BroadcastsInDim S4096x16384 (![0, 1] : Fin 2 → Fin S4096x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  bcast_S_S524288 : S_.BroadcastsInDim S524288 (![] : Fin 0 → Fin S524288.rank)
  bcast_S4096x16384_S4096x16384x1_0_1 : S4096x16384.BroadcastsInDim S4096x16384x1 (![0, 1] : Fin 2 → Fin S4096x16384x1.rank)
  reducesTo_S524288_S_d0 : S524288.ReducesTo [0] S_
  scatter_S524288_S4096x16384x1_S4096x16384_n_0_0_2_wf : ScatterDims.WF S524288 S4096x16384x1 S4096x16384 [] [0] [0] 2

variable [Facts]

def scatter_S524288_S4096x16384x1_S4096x16384_n_0_0_2 : ScatterDims S524288 S4096x16384x1 S4096x16384 where
  updateWindowDims := []
  insertedWindowDims := [0]
  scatterDimsToOperandDims := [0]
  indexVectorDim := 2
  wf := scatter_S524288_S4096x16384x1_S4096x16384_n_0_0_2_wf
def fn_where {F : FTy → Type} [FloatOps F] (arg0 : IVec S_ 1) (arg1 : FVec F S_ .f32) (arg2 : FVec F S_ .f32) : FVec F S_ .f32 :=
  let v0 : FVec F S_ .f32 := id arg1
  let v1 : FVec F S_ .f32 := select arg0 v0 arg2
  v1

def fn_where_0 {F : FTy → Type} [FloatOps F] (arg0 : IVec S_ 1) (arg1 : FVec F S16384 .f32) (arg2 : FVec F S16384 .f32) : FVec F S16384 .f32 :=
  let v0 : FVec F S16384 .f32 := (fun p a b => select (broadcastInDim S16384 ![] bcast_S_S16384 p) a b) arg0 arg1 arg2
  v0

def fn_where_1 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S4096x16384 32) (arg1 : IVec S_ 32) : IVec S4096x16384 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_1 (F := F) v1 c_0 v0
  let v3 : IVec S4096x16384 32 := broadcastInDim S4096x16384 ![] bcast_S_S4096x16384 v2
  let v4 : IVec S4096x16384 32 := Host.remsi arg0 v3
  let c_1 : IVec S_ 32 := constantI S_ 32 0#32
  let v5 : IVec S4096x16384 32 := broadcastInDim S4096x16384 ![] bcast_S_S4096x16384 c_1
  let v6 : IVec S4096x16384 1 := cmpi .ne v4 v5
  let c_2 : IVec S_ 32 := constantI S_ 32 0#32
  let v7 : IVec S4096x16384 32 := broadcastInDim S4096x16384 ![] bcast_S_S4096x16384 c_2
  let v8 : IVec S4096x16384 1 := cmpi .slt v4 v7
  let c_3 : IVec S_ 32 := constantI S_ 32 0#32
  let v9 : IVec S_ 1 := cmpi .slt v2 c_3
  let v10 : IVec S4096x16384 1 := broadcastInDim S4096x16384 ![] bcast_S_S4096x16384 v9
  let v11 : IVec S4096x16384 1 := cmpi .ne v8 v10
  let v12 : IVec S4096x16384 1 := andi v11 v6
  let v13 : IVec S4096x16384 32 := broadcastInDim S4096x16384 ![] bcast_S_S4096x16384 v2
  let v14 : IVec S4096x16384 32 := addi v4 v13
  let v15 : IVec S4096x16384 32 := select v12 v14 v4
  v15

def fn_norm {F : FTy → Type} [FloatOps F] (arg0 : FVec F S524288 .f32) : FVec F S_ .f32 :=
  let v0 : FVec F S524288 .f32 := mulf arg0 arg0
  let cst : FVec F S_ .f32 := constant S_ .f32 0x00000000#32
  let v1 : FVec F S_ .f32 := (fun x v => Host.reduceAdd x v reducesTo_S524288_S_d0 h_S_) v0 cst
  let v2 : FVec F S_ .f32 := Host.sqrt v1
  v2

def fn_part6 {F : FTy → Type} [FloatOps F] (main_arg2 : FVec F S4096 .f32) (main_v95 : FVec F S524288 .f32) (main_v100 : IVec S4096 1) (main_v104 : FVec F S_ .f32) : IVec S4096 1 :=
  let main_v105 : FVec F S_ .f32 := Host.tan main_v104
  let main_cst_37 : FVec F S_ .f32 := constant S_ .f32 0x4165B000#32
  let main_v106 : FVec F S_ .f32 := mulf main_v105 main_cst_37
  let main_cst_38 : FVec F S_ .f32 := constant S_ .f32 0x40800000#32
  let main_v107 : FVec F S_ .f32 := Host.divf main_v106 main_cst_38
  let main_cst_39 : FVec F S_ .f32 := constant S_ .f32 0x00000000#32
  let main_v108 : IVec S_ 1 := cmpf .une main_v107 main_cst_39
  let main_v109 : IVec S4096 1 := broadcastInDim S4096 ![] bcast_S_S4096 main_v108
  let main_v110 : IVec S4096 1 := andi main_v100 main_v109
  let main_cst_40 : FVec F S_ .f32 := constant S_ .f32 0x00000000#32
  let main_v111 : FVec F S4096 .f32 := broadcastInDim S4096 ![] bcast_S_S4096 main_cst_40
  let main_v112 : IVec S4096 1 := cmpf .ogt main_arg2 main_v111
  let main_v113 : IVec S4096 1 := andi main_v110 main_v112
  let main_v114 : FVec F S_ .f32 := fn_norm (F := F) main_v95
  let main_cst_41 : FVec F S_ .f32 := constant S_ .f32 0x00000000#32
  let main_v115 : IVec S_ 1 := cmpf .ogt main_v114 main_cst_41
  let main_v116 : IVec S4096 1 := broadcastInDim S4096 ![] bcast_S_S4096 main_v115
  let main_v117 : IVec S4096 1 := andi main_v113 main_v116
  main_v117

def fn_part5 {F : FTy → Type} [FloatOps F] (main_arg1 : FVec F S_ .f32) (main_arg2 : FVec F S4096 .f32) (main_arg3 : IVec S4096 32) (main_v80 : FVec F S4096x16384 .f32) (main_v87 : IVec S4096x16384 32) (main_cst_29 : FVec F S_ .f32) : IVec S4096 1 :=
  let main_v88 : FVec F S524288 .f32 := broadcastInDim S524288 ![] bcast_S_S524288 main_cst_29
  let main_c_30 : IVec S_ 32 := constantI S_ 32 0#32
  let main_v89 : IVec S4096x16384 32 := broadcastInDim S4096x16384 ![] bcast_S_S4096x16384 main_c_30
  let main_v90 : IVec S4096x16384 1 := cmpi .slt main_v87 main_v89
  let main_c_31 : IVec S_ 32 := constantI S_ 32 524288#32
  let main_v91 : IVec S4096x16384 32 := broadcastInDim S4096x16384 ![] bcast_S_S4096x16384 main_c_31
  let main_v92 : IVec S4096x16384 32 := addi main_v87 main_v91
  let main_v93 : IVec S4096x16384 32 := select main_v90 main_v92 main_v87
  let main_v94 : IVec S4096x16384x1 32 := broadcastInDim S4096x16384x1 ![0, 1] bcast_S4096x16384_S4096x16384x1_0_1 main_v93
  let main_v95 : FVec F S524288 .f32 := (fun x i u => Host.scatterAdd scatter_S524288_S4096x16384x1_S4096x16384_n_0_0_2 x i u) main_v88 main_v94 main_v80
  let main_c_32 : IVec S_ 32 := constantI S_ 32 0#32
  let main_v96 : IVec S4096 32 := broadcastInDim S4096 ![] bcast_S_S4096 main_c_32
  let main_v97 : IVec S4096 1 := cmpi .sge main_arg3 main_v96
  let main_c_33 : IVec S_ 32 := constantI S_ 32 507904#32
  let main_v98 : IVec S4096 32 := broadcastInDim S4096 ![] bcast_S_S4096 main_c_33
  let main_v99 : IVec S4096 1 := cmpi .slt main_arg3 main_v98
  let main_v100 : IVec S4096 1 := andi main_v97 main_v99
  let main_cst_34 : FVec F S_ .f32 := constant S_ .f32 0x3F800000#32
  let main_v101 : FVec F S_ .f32 := Host.atan main_cst_34
  let main_cst_35 : FVec F S_ .f32 := constant S_ .f32 0x40800000#32
  let main_v102 : FVec F S_ .f32 := mulf main_cst_35 main_v101
  let main_v103 : FVec F S_ .f32 := mulf main_arg1 main_v102
  let main_cst_36 : FVec F S_ .f32 := constant S_ .f32 0x40000000#32
  let main_v104 : FVec F S_ .f32 := Host.divf main_v103 main_cst_36
  fn_part6 (F := F) main_arg2 main_v95 main_v100 main_v104

def fn_part4 {F : FTy → Type} [FloatOps F] (main_arg1 : FVec F S_ .f32) (main_arg2 : FVec F S4096 .f32) (main_arg3 : IVec S4096 32) (main_v25 : FVec F S4096 .f32) (main_v50 : FVec F S16384 .f32) (main_v59 : FVec F S16384 .f32) (main_v65 : FVec F S4096x1 .f32) : IVec S4096 1 :=
  let main_v66 : FVec F S1x16384 .f32 := broadcastInDim S1x16384 ![1] bcast_S16384_S1x16384_1 main_v50
  let main_v67 : FVec F S4096x16384 .f32 := broadcastInDim S4096x16384 ![0, 1] bcast_S4096x1_S4096x16384_0_1 main_v65
  let main_v68 : FVec F S4096x16384 .f32 := broadcastInDim S4096x16384 ![0, 1] bcast_S1x16384_S4096x16384_0_1 main_v66
  let main_v69 : FVec F S4096x16384 .f32 := mulf main_v67 main_v68
  let main_v70 : FVec F S4096x16384 .f32 := Host.sin main_v69
  let main_v71 : FVec F S4096x1 .f32 := broadcastInDim S4096x1 ![0] bcast_S4096_S4096x1_0 main_v25
  let main_v72 : FVec F S4096x16384 .f32 := broadcastInDim S4096x16384 ![0, 1] bcast_S4096x1_S4096x16384_0_1 main_v71
  let main_v73 : FVec F S4096x16384 .f32 := mulf main_v70 main_v72
  let main_v74 : FVec F S1x16384 .f32 := broadcastInDim S1x16384 ![1] bcast_S16384_S1x16384_1 main_v59
  let main_v75 : FVec F S4096x16384 .f32 := broadcastInDim S4096x16384 ![0, 1] bcast_S1x16384_S4096x16384_0_1 main_v74
  let main_v76 : FVec F S4096x16384 .f32 := mulf main_v73 main_v75
  let main_v77 : FVec F S4096 .f32 := Host.sqrt main_arg2
  let main_v78 : FVec F S4096x1 .f32 := broadcastInDim S4096x1 ![0] bcast_S4096_S4096x1_0 main_v77
  let main_v79 : FVec F S4096x16384 .f32 := broadcastInDim S4096x16384 ![0, 1] bcast_S4096x1_S4096x16384_0_1 main_v78
  let main_v80 : FVec F S4096x16384 .f32 := Host.divf main_v76 main_v79
  let main_v81 : IVec S4096x1 32 := broadcastInDim S4096x1 ![0] bcast_S4096_S4096x1_0 main_arg3
  let main_v82 : IVec S16384 32 := iotaInDim S16384 32 0
  let main_v83 : IVec S1x16384 32 := broadcastInDim S1x16384 ![1] bcast_S16384_S1x16384_1 main_v82
  let main_v84 : IVec S4096x16384 32 := broadcastInDim S4096x16384 ![0, 1] bcast_S4096x1_S4096x16384_0_1 main_v81
  let main_v85 : IVec S4096x16384 32 := broadcastInDim S4096x16384 ![0, 1] bcast_S1x16384_S4096x16384_0_1 main_v83
  let main_v86 : IVec S4096x16384 32 := addi main_v84 main_v85
  let main_c : IVec S_ 32 := constantI S_ 32 524288#32
  let main_v87 : IVec S4096x16384 32 := fn_remainder (F := F) main_v86 main_c
  let main_cst_29 : FVec F S_ .f32 := constant S_ .f32 0x00000000#32
  fn_part5 (F := F) main_arg1 main_arg2 main_arg3 main_v80 main_v87 main_cst_29

def fn_part3 {F : FTy → Type} [FloatOps F] (main_arg1 : FVec F S_ .f32) (main_arg2 : FVec F S4096 .f32) (main_arg3 : IVec S4096 32) (main_v25 : FVec F S4096 .f32) (main_v39 : FVec F S16384 .f32) (main_v42 : IVec S_ 1) (main_v46 : FVec F S16384 .f32) (main_v47 : FVec F S_ .f32) : IVec S4096 1 :=
  let main_v48 : FVec F S16384 .f32 := broadcastInDim S16384 ![] bcast_S_S16384 main_v47
  let main_v49 : FVec F S16384 .f32 := Host.divf main_v46 main_v48
  let main_v50 : FVec F S16384 .f32 := fn_where_0 (F := F) main_v42 main_v39 main_v49
  let main_cst_23 : FVec F S_ .f32 := constant S_ .f32 0x3F800000#32
  let main_v51 : FVec F S_ .f32 := Host.atan main_cst_23
  let main_cst_24 : FVec F S_ .f32 := constant S_ .f32 0x40800000#32
  let main_v52 : FVec F S_ .f32 := mulf main_cst_24 main_v51
  let main_v53 : FVec F S16384 .f32 := sitofp .f32 (iotaInDim S16384 32 0)
  let main_v54 : FVec F S16384 .f32 := broadcastInDim S16384 ![] bcast_S_S16384 main_v52
  let main_v55 : FVec F S16384 .f32 := mulf main_v54 main_v53
  let main_cst_25 : FVec F S_ .f32 := constant S_ .f32 0x46800000#32
  let main_v56 : FVec F S16384 .f32 := broadcastInDim S16384 ![] bcast_S_S16384 main_cst_25
  let main_v57 : FVec F S16384 .f32 := Host.divf main_v55 main_v56
  let main_v58 : FVec F S16384 .f32 := Host.sin main_v57
  let main_v59 : FVec F S16384 .f32 := mulf main_v58 main_v58
  let main_cst_26 : FVec F S_ .f32 := constant S_ .f32 0x3F800000#32
  let main_v60 : FVec F S_ .f32 := Host.atan main_cst_26
  let main_cst_27 : FVec F S_ .f32 := constant S_ .f32 0x40800000#32
  let main_v61 : FVec F S_ .f32 := mulf main_cst_27 main_v60
  let main_cst_28 : FVec F S_ .f32 := constant S_ .f32 0x40000000#32
  let main_v62 : FVec F S_ .f32 := mulf main_cst_28 main_v61
  let main_v63 : FVec F S4096x1 .f32 := broadcastInDim S4096x1 ![0] bcast_S4096_S4096x1_0 main_arg2
  let main_v64 : FVec F S4096x1 .f32 := broadcastInDim S4096x1 ![] bcast_S_S4096x1 main_v62
  let main_v65 : FVec F S4096x1 .f32 := mulf main_v64 main_v63
  fn_part4 (F := F) main_arg1 main_arg2 main_arg3 main_v25 main_v50 main_v59 main_v65

def fn_part2 {F : FTy → Type} [FloatOps F] (main_arg1 : FVec F S_ .f32) (main_arg2 : FVec F S4096 .f32) (main_arg3 : IVec S4096 32) (main_v25 : FVec F S4096 .f32) (main_v32 : FVec F S_ .f32) : IVec S4096 1 :=
  let main_v33 : FVec F S16384 .f32 := sitofp .f32 (iotaInDim S16384 32 0)
  let main_cst_14 : FVec F S_ .f32 := constant S_ .f32 0x472C4400#32
  let main_v34 : FVec F S16384 .f32 := broadcastInDim S16384 ![] bcast_S_S16384 main_cst_14
  let main_v35 : FVec F S16384 .f32 := Host.divf main_v33 main_v34
  let main_cst_15 : FVec F S_ .f32 := constant S_ .f32 0x46800000#32
  let main_cst_16 : FVec F S_ .f32 := constant S_ .f32 0x472C4400#32
  let main_v36 : FVec F S_ .f32 := Host.divf main_cst_15 main_cst_16
  let main_cst_17 : FVec F S_ .f32 := constant S_ .f32 0x40000000#32
  let main_v37 : FVec F S_ .f32 := Host.divf main_v36 main_cst_17
  let main_v38 : FVec F S16384 .f32 := broadcastInDim S16384 ![] bcast_S_S16384 main_v37
  let main_v39 : FVec F S16384 .f32 := subf main_v35 main_v38
  let main_cst_18 : FVec F S_ .f32 := constant S_ .f32 0x00000000#32
  let main_v40 : IVec S_ 1 := cmpf .oeq main_v32 main_cst_18
  let main_cst_19 : FVec F S_ .f32 := constant S_ .f32 0x3F800000#32
  let main_v41 : FVec F S_ .f32 := fn_where (F := F) main_v40 main_cst_19 main_v32
  let main_cst_20 : FVec F S_ .f32 := constant S_ .f32 0x00000000#32
  let main_v42 : IVec S_ 1 := cmpf .oeq main_v32 main_cst_20
  let main_cst_21 : FVec F S_ .f32 := constant S_ .f32 0x3F800000#32
  let main_v43 : FVec F S_ .f32 := mulf main_v41 main_cst_21
  let main_v44 : FVec F S16384 .f32 := broadcastInDim S16384 ![] bcast_S_S16384 main_v43
  let main_v45 : FVec F S16384 .f32 := mulf main_v44 main_v39
  let main_v46 : FVec F S16384 .f32 := Host.expm1 main_v45
  let main_cst_22 : FVec F S_ .f32 := constant S_ .f32 0x3F800000#32
  let main_v47 : FVec F S_ .f32 := mulf main_v41 main_cst_22
  fn_part3 (F := F) main_arg1 main_arg2 main_arg3 main_v25 main_v39 main_v42 main_v46 main_v47

def fn_part1 {F : FTy → Type} [FloatOps F] (main_arg1 : FVec F S_ .f32) (main_arg2 : FVec F S4096 .f32) (main_arg3 : IVec S4096 32) (main_v16 : FVec F S4096 .f32) (main_cst_5 : FVec F S_ .f32) : IVec S4096 1 :=
  let main_v17 : FVec F S4096 .f32 := broadcastInDim S4096 ![] bcast_S_S4096 main_cst_5
  let main_v18 : FVec F S4096 .f32 := addf main_v17 main_v16
  let main_cst_6 : FVec F S_ .f32 := constant S_ .f32 0x3F800000#32
  let main_v19 : FVec F S4096 .f32 := broadcastInDim S4096 ![] bcast_S_S4096 main_cst_6
  let main_v20 : FVec F S4096 .f32 := Host.divf main_v19 main_v18
  let main_cst_7 : FVec F S_ .f32 := constant S_ .f32 0x3F800000#32
  let main_v21 : FVec F S4096 .f32 := broadcastInDim S4096 ![] bcast_S_S4096 main_cst_7
  let main_v22 : FVec F S4096 .f32 := subf main_v21 main_v20
  let main_cst_8 : FVec F S_ .f32 := constant S_ .f32 0xFF800000#32
  let main_v23 : FVec F S_ .f32 := (fun x v => Host.reduce FloatOps.maximumf x v reducesTo_S4096_S_d0 h_S_) main_v22 main_cst_8
  let main_v24 : FVec F S4096 .f32 := broadcastInDim S4096 ![] bcast_S_S4096 main_v23
  let main_v25 : FVec F S4096 .f32 := Host.divf main_v22 main_v24
  let main_cst_9 : FVec F S_ .f32 := constant S_ .f32 0x3F800000#32
  let main_v26 : FVec F S_ .f32 := Host.atan main_cst_9
  let main_cst_10 : FVec F S_ .f32 := constant S_ .f32 0x40800000#32
  let main_v27 : FVec F S_ .f32 := mulf main_cst_10 main_v26
  let main_v28 : FVec F S_ .f32 := mulf main_arg1 main_v27
  let main_cst_11 : FVec F S_ .f32 := constant S_ .f32 0x40000000#32
  let main_v29 : FVec F S_ .f32 := Host.divf main_v28 main_cst_11
  let main_v30 : FVec F S_ .f32 := Host.tan main_v29
  let main_cst_12 : FVec F S_ .f32 := constant S_ .f32 0x4165B000#32
  let main_v31 : FVec F S_ .f32 := mulf main_v30 main_cst_12
  let main_cst_13 : FVec F S_ .f32 := constant S_ .f32 0x40800000#32
  let main_v32 : FVec F S_ .f32 := Host.divf main_v31 main_cst_13
  fn_part2 (F := F) main_arg1 main_arg2 main_arg3 main_v25 main_v32

def fn {F : FTy → Type} [FloatOps F] (main_arg0 : FVec F S_ .f32) (main_arg1 : FVec F S_ .f32) (main_arg2 : FVec F S4096 .f32) (main_arg3 : IVec S4096 32) : IVec S4096 1 :=
  let main_cst : FVec F S_ .f32 := constant S_ .f32 0x3E800000#32
  let main_v0 : FVec F S_ .f32 := mulf main_cst main_arg0
  let main_v1 : FVec F S_ .f32 := mulf main_arg0 main_arg0
  let main_cst_0 : FVec F S_ .f32 := constant S_ .f32 0x3F400000#32
  let main_v2 : FVec F S_ .f32 := mulf main_cst_0 main_v1
  let main_v3 : FVec F S_ .f32 := addf main_v0 main_v2
  let main_v4 : FVec F S4096 .f32 := sitofp .f32 (iotaInDim S4096 32 0)
  let main_cst_1 : FVec F S_ .f32 := constant S_ .f32 0x3F800000#32
  let main_v5 : FVec F S_ .f32 := subf main_cst_1 main_arg0
  let main_cst_2 : FVec F S_ .f32 := constant S_ .f32 0x45800000#32
  let main_v6 : FVec F S_ .f32 := mulf main_v5 main_cst_2
  let main_cst_3 : FVec F S_ .f32 := constant S_ .f32 0x45800000#32
  let main_v7 : FVec F S4096 .f32 := broadcastInDim S4096 ![] bcast_S_S4096 main_cst_3
  let main_v8 : FVec F S4096 .f32 := Host.divf main_v4 main_v7
  let main_v9 : FVec F S4096 .f32 := broadcastInDim S4096 ![] bcast_S_S4096 main_v3
  let main_v10 : FVec F S4096 .f32 := subf main_v8 main_v9
  let main_v11 : FVec F S4096 .f32 := broadcastInDim S4096 ![] bcast_S_S4096 main_v6
  let main_v12 : FVec F S4096 .f32 := mulf main_v11 main_v10
  let main_cst_4 : FVec F S_ .f32 := constant S_ .f32 0x40000000#32
  let main_v13 : FVec F S4096 .f32 := broadcastInDim S4096 ![] bcast_S_S4096 main_cst_4
  let main_v14 : FVec F S4096 .f32 := mulf main_v13 main_v12
  let main_v15 : FVec F S4096 .f32 := Host.negf main_v14
  let main_v16 : FVec F S4096 .f32 := Host.exp main_v15
  let main_cst_5 : FVec F S_ .f32 := constant S_ .f32 0x3F800000#32
  fn_part1 (F := F) main_arg1 main_arg2 main_arg3 main_v16 main_cst_5
-- ==== Pre_onsets_in_range.lean ====
abbrev S_ : Shape := ⟨0, ![]⟩
abbrev S4096 : Shape := ⟨1, ![4096]⟩

class Facts : Prop where
  bcast_S_S4096 : S_.BroadcastsInDim S4096 (![] : Fin 0 → Fin S4096.rank)

variable [Facts]

def fn {F : FTy → Type} [FloatOps F] (main_arg0 : FVec F S_ .f32) (main_arg1 : FVec F S_ .f32) (main_arg2 : FVec F S4096 .f32) (main_arg3 : IVec S4096 32) : IVec S4096 1 :=
  let main_c : IVec S_ 32 := constantI S_ 32 0#32
  let main_v0 : IVec S4096 32 := broadcastInDim S4096 ![] bcast_S_S4096 main_c
  let main_v1 : IVec S4096 1 := cmpi .sge main_arg3 main_v0
  let main_c_0 : IVec S_ 32 := constantI S_ 32 507904#32
  let main_v2 : IVec S4096 32 := broadcastInDim S4096 ![] bcast_S_S4096 main_c_0
  let main_v3 : IVec S4096 1 := cmpi .slt main_arg3 main_v2
  let main_v4 : IVec S4096 1 := andi main_v1 main_v3
  main_v4
-- ==== Kernel.lean ====
abbrev S_ : Shape := ⟨0, ![]⟩
abbrev S4096 : Shape := ⟨1, ![4096]⟩
abbrev S1x1 : Shape := ⟨2, ![1, 1]⟩
abbrev S32x128 : Shape := ⟨2, ![32, 128]⟩
abbrev S1x128 : Shape := ⟨2, ![1, 128]⟩
abbrev S1x32x128 : Shape := ⟨3, ![1, 32, 128]⟩
abbrev S1 : Shape := ⟨1, ![1]⟩
abbrev S1x1x1 : Shape := ⟨3, ![1, 1, 1]⟩
abbrev S1x2 : Shape := ⟨2, ![1, 2]⟩
abbrev S2 : Shape := ⟨1, ![2]⟩
abbrev S2x4096x128 : Shape := ⟨3, ![2, 4096, 128]⟩
abbrev S1x4096x128 : Shape := ⟨3, ![1, 4096, 128]⟩
abbrev S4096x128 : Shape := ⟨2, ![4096, 128]⟩
abbrev S136x128 : Shape := ⟨2, ![136, 128]⟩
abbrev S1x136x128 : Shape := ⟨3, ![1, 136, 128]⟩
abbrev S524288 : Shape := ⟨1, ![524288]⟩

abbrev nBuf : Space → Nat
  | .hbm => 15
  | .vmem => 7
  | .smem => 6
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S4096, .f32⟩
  | .hbm, ⟨3, _⟩ => ⟨S4096, .i32⟩
  | .hbm, ⟨4, _⟩ => ⟨S1x1, .f32⟩
  | .hbm, ⟨5, _⟩ => ⟨S1x1, .f32⟩
  | .hbm, ⟨6, _⟩ => ⟨S32x128, .f32⟩
  | .hbm, ⟨7, _⟩ => ⟨S32x128, .f32⟩
  | .hbm, ⟨8, _⟩ => ⟨S1x128, .f32⟩
  | .hbm, ⟨9, _⟩ => ⟨S4096, .f32⟩
  | .hbm, ⟨10, _⟩ => ⟨S1x2, .f32⟩
  | .hbm, ⟨11, _⟩ => ⟨S2, .f32⟩
  | .hbm, ⟨12, _⟩ => ⟨S2x4096x128, .f32⟩
  | .hbm, ⟨13, _⟩ => ⟨S4096x128, .f32⟩
  | .hbm, ⟨14, _⟩ => ⟨S524288, .f32⟩
  | .local _ .vmem, ⟨0, _⟩ => ⟨S32x128, .f32⟩
  | .local _ .vmem, ⟨1, _⟩ => ⟨S32x128, .f32⟩
  | .local _ .vmem, ⟨2, _⟩ => ⟨S1x128, .f32⟩
  | .local _ .vmem, ⟨3, _⟩ => ⟨S1x4096x128, .f32⟩
  | .local _ .vmem, ⟨4, _⟩ => ⟨S1x4096x128, .f32⟩
  | .local _ .vmem, ⟨5, _⟩ => ⟨S2x4096x128, .f32⟩
  | .local _ .vmem, ⟨6, _⟩ => ⟨S4096x128, .f32⟩
  | .local _ .smem, ⟨0, _⟩ => ⟨S1x1, .f32⟩
  | .local _ .smem, ⟨1, _⟩ => ⟨S1x1, .f32⟩
  | .local _ .smem, ⟨2, _⟩ => ⟨S4096, .i32⟩
  | .local _ .smem, ⟨3, _⟩ => ⟨S4096, .f32⟩
  | .local _ .smem, ⟨4, _⟩ => ⟨S4096, .f32⟩
  | .local _ .smem, ⟨5, _⟩ => ⟨S2, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc1_stg4_0 : Ref sig .tc := ⟨.vmem, 3, rfl⟩
abbrev cc1_stg4_1 : Ref sig .tc := ⟨.vmem, 4, rfl⟩
abbrev cc2_stg0_0 : Ref sig .tc := ⟨.vmem, 5, rfl⟩
abbrev cc2_stg1_0 : Ref sig .tc := ⟨.vmem, 6, rfl⟩
abbrev cc0_stg0_0 : Ref sig .tc := ⟨.smem, 0, rfl⟩
abbrev cc0_stg1_0 : Ref sig .tc := ⟨.smem, 1, rfl⟩
abbrev cc1_stg0_0 : Ref sig .tc := ⟨.smem, 2, rfl⟩
abbrev cc1_stg1_0 : Ref sig .tc := ⟨.smem, 3, rfl⟩
abbrev cc1_stg2_0 : Ref sig .tc := ⟨.smem, 4, rfl⟩
abbrev cc1_stg3_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc2_sem0_0 : DmaSem sig := 11
abbrev cc2_sem1_0 : DmaSem sig := 12

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![2, 256], ![false, false]⟩

def k1_off1 (i : grid1.Coords) : Fin 1 → Nat :=
  let arg0 : BitVec 32 := BitVec.ofNat 32 (i 0).val
  let c2048_i32 : BitVec 32 := 2048#32
  let v14 : BitVec 32 := Scalar.muli arg0 c2048_i32
  let arg1 : BitVec 32 := BitVec.ofNat 32 (i 1).val
  let c8_i32 : BitVec 32 := 8#32
  let v15 : BitVec 32 := Scalar.muli arg1 c8_i32
  let v16 : BitVec 32 := Scalar.addi v14 v15
  let c0_i32_3 : BitVec 32 := 0#32
  let v17 : BitVec 32 := Scalar.addi v16 c0_i32_3
  let v18 : Index := Scalar.indexCast v17
  ![v18.toNat]
def k1_mult1 (v19 : BitVec 32) : BitVec 32 :=
  let c1024_i32 : BitVec 32 := 1024#32
  let v25 : BitVec 32 := Scalar.divsi v19 c1024_i32
  let c8_i32_4 : BitVec 32 := 8#32
  let v26 : BitVec 32 := Scalar.muli v25 c8_i32_4
  v26

def k1_off2 (v19 : BitVec 32) : Fin 3 → Nat :=
  let c0_14 : Index := 0#32
  let c1024_i32 : BitVec 32 := 1024#32
  let v25 : BitVec 32 := Scalar.divsi v19 c1024_i32
  let c8_i32_4 : BitVec 32 := 8#32
  let v26 : BitVec 32 := Scalar.muli v25 c8_i32_4
  let v66 : BitVec 32 := v26
  let v67 : Index := Scalar.indexCast v66
  let c0_15 : Index := 0#32
  ![0, v67.toNat, 0]

def k1_chk1 (v19 : BitVec 32) : Prop :=
  (8 ∣ (k1_mult1 v19).toNat) ∧
  (∀ a, (k1_off2 v19) a + S1x136x128.size a ≤ S1x4096x128.size a)
theorem k1_mult1_dvd : ∀ (v19 : BitVec 32) (k1_hw1 : k1_chk1 v19), 8 ∣ (k1_mult1 v19).toNat := fun v19 k1_hw1 => k1_hw1.1
theorem k1_off2_inb : ∀ (v19 : BitVec 32) (k1_hw1 : k1_chk1 v19), ∀ a, (k1_off2 v19) a + S1x136x128.size a ≤ S1x4096x128.size a := fun v19 k1_hw1 => k1_hw1.2

def k1_off3 (i : grid1.Coords) : Fin 1 → Nat :=
  let arg0 : BitVec 32 := BitVec.ofNat 32 (i 0).val
  let c2048_i32 : BitVec 32 := 2048#32
  let v14 : BitVec 32 := Scalar.muli arg0 c2048_i32
  let arg1 : BitVec 32 := BitVec.ofNat 32 (i 1).val
  let c8_i32 : BitVec 32 := 8#32
  let v15 : BitVec 32 := Scalar.muli arg1 c8_i32
  let v16 : BitVec 32 := Scalar.addi v14 v15
  let c1_i32 : BitVec 32 := 1#32
  let v75 : BitVec 32 := Scalar.addi v16 c1_i32
  let v76 : Index := Scalar.indexCast v75
  ![v76.toNat]
def k1_mult2 (v77 : BitVec 32) : BitVec 32 :=
  let c1024_i32_18 : BitVec 32 := 1024#32
  let v83 : BitVec 32 := Scalar.divsi v77 c1024_i32_18
  let c8_i32_19 : BitVec 32 := 8#32
  let v84 : BitVec 32 := Scalar.muli v83 c8_i32_19
  v84

def k1_off4 (v77 : BitVec 32) : Fin 3 → Nat :=
  let c0_29 : Index := 0#32
  let c1024_i32_18 : BitVec 32 := 1024#32
  let v83 : BitVec 32 := Scalar.divsi v77 c1024_i32_18
  let c8_i32_19 : BitVec 32 := 8#32
  let v84 : BitVec 32 := Scalar.muli v83 c8_i32_19
  let v124 : BitVec 32 := v84
  let v125 : Index := Scalar.indexCast v124
  let c0_30 : Index := 0#32
  ![0, v125.toNat, 0]

def k1_chk2 (v77 : BitVec 32) : Prop :=
  (8 ∣ (k1_mult2 v77).toNat) ∧
  (∀ a, (k1_off4 v77) a + S1x136x128.size a ≤ S1x4096x128.size a)
theorem k1_mult2_dvd : ∀ (v77 : BitVec 32) (k1_hw2 : k1_chk2 v77), 8 ∣ (k1_mult2 v77).toNat := fun v77 k1_hw2 => k1_hw2.1
theorem k1_off4_inb : ∀ (v77 : BitVec 32) (k1_hw2 : k1_chk2 v77), ∀ a, (k1_off4 v77) a + S1x136x128.size a ≤ S1x4096x128.size a := fun v77 k1_hw2 => k1_hw2.2

def k1_off5 (i : grid1.Coords) : Fin 1 → Nat :=
  let arg0 : BitVec 32 := BitVec.ofNat 32 (i 0).val
  let c2048_i32 : BitVec 32 := 2048#32
  let v14 : BitVec 32 := Scalar.muli arg0 c2048_i32
  let arg1 : BitVec 32 := BitVec.ofNat 32 (i 1).val
  let c8_i32 : BitVec 32 := 8#32
  let v15 : BitVec 32 := Scalar.muli arg1 c8_i32
  let v16 : BitVec 32 := Scalar.addi v14 v15
  let c2_i32 : BitVec 32 := 2#32
  let v133 : BitVec 32 := Scalar.addi v16 c2_i32
  let v134 : Index := Scalar.indexCast v133
  ![v134.toNat]
def k1_mult3 (v135 : BitVec 32) : BitVec 32 :=
  let c1024_i32_33 : BitVec 32 := 1024#32
  let v141 : BitVec 32 := Scalar.divsi v135 c1024_i32_33
  let c8_i32_34 : BitVec 32 := 8#32
  let v142 : BitVec 32 := Scalar.muli v141 c8_i32_34
  v142

def k1_off6 (v135 : BitVec 32) : Fin 3 → Nat :=
  let c0_44 : Index := 0#32
  let c1024_i32_33 : BitVec 32 := 1024#32
  let v141 : BitVec 32 := Scalar.divsi v135 c1024_i32_33
  let c8_i32_34 : BitVec 32 := 8#32
  let v142 : BitVec 32 := Scalar.muli v141 c8_i32_34
  let v182 : BitVec 32 := v142
  let v183 : Index := Scalar.indexCast v182
  let c0_45 : Index := 0#32
  ![0, v183.toNat, 0]

def k1_chk3 (v135 : BitVec 32) : Prop :=
  (8 ∣ (k1_mult3 v135).toNat) ∧
  (∀ a, (k1_off6 v135) a + S1x136x128.size a ≤ S1x4096x128.size a)
theorem k1_mult3_dvd : ∀ (v135 : BitVec 32) (k1_hw3 : k1_chk3 v135), 8 ∣ (k1_mult3 v135).toNat := fun v135 k1_hw3 => k1_hw3.1
theorem k1_off6_inb : ∀ (v135 : BitVec 32) (k1_hw3 : k1_chk3 v135), ∀ a, (k1_off6 v135) a + S1x136x128.size a ≤ S1x4096x128.size a := fun v135 k1_hw3 => k1_hw3.2

def k1_off7 (i : grid1.Coords) : Fin 1 → Nat :=
  let arg0 : BitVec 32 := BitVec.ofNat 32 (i 0).val
  let c2048_i32 : BitVec 32 := 2048#32
  let v14 : BitVec 32 := Scalar.muli arg0 c2048_i32
  let arg1 : BitVec 32 := BitVec.ofNat 32 (i 1).val
  let c8_i32 : BitVec 32 := 8#32
  let v15 : BitVec 32 := Scalar.muli arg1 c8_i32
  let v16 : BitVec 32 := Scalar.addi v14 v15
  let c3_i32 : BitVec 32 := 3#32
  let v191 : BitVec 32 := Scalar.addi v16 c3_i32
  let v192 : Index := Scalar.indexCast v191
  ![v192.toNat]
def k1_mult4 (v193 : BitVec 32) : BitVec 32 :=
  let c1024_i32_48 : BitVec 32 := 1024#32
  let v199 : BitVec 32 := Scalar.divsi v193 c1024_i32_48
  let c8_i32_49 : BitVec 32 := 8#32
  let v200 : BitVec 32 := Scalar.muli v199 c8_i32_49
  v200

def k1_off8 (v193 : BitVec 32) : Fin 3 → Nat :=
  let c0_59 : Index := 0#32
  let c1024_i32_48 : BitVec 32 := 1024#32
  let v199 : BitVec 32 := Scalar.divsi v193 c1024_i32_48
  let c8_i32_49 : BitVec 32 := 8#32
  let v200 : BitVec 32 := Scalar.muli v199 c8_i32_49
  let v240 : BitVec 32 := v200
  let v241 : Index := Scalar.indexCast v240
  let c0_60 : Index := 0#32
  ![0, v241.toNat, 0]

def k1_chk4 (v193 : BitVec 32) : Prop :=
  (8 ∣ (k1_mult4 v193).toNat) ∧
  (∀ a, (k1_off8 v193) a + S1x136x128.size a ≤ S1x4096x128.size a)
theorem k1_mult4_dvd : ∀ (v193 : BitVec 32) (k1_hw4 : k1_chk4 v193), 8 ∣ (k1_mult4 v193).toNat := fun v193 k1_hw4 => k1_hw4.1
theorem k1_off8_inb : ∀ (v193 : BitVec 32) (k1_hw4 : k1_chk4 v193), ∀ a, (k1_off8 v193) a + S1x136x128.size a ≤ S1x4096x128.size a := fun v193 k1_hw4 => k1_hw4.2

def k1_off9 (i : grid1.Coords) : Fin 1 → Nat :=
  let arg0 : BitVec 32 := BitVec.ofNat 32 (i 0).val
  let c2048_i32 : BitVec 32 := 2048#32
  let v14 : BitVec 32 := Scalar.muli arg0 c2048_i32
  let arg1 : BitVec 32 := BitVec.ofNat 32 (i 1).val
  let c8_i32 : BitVec 32 := 8#32
  let v15 : BitVec 32 := Scalar.muli arg1 c8_i32
  let v16 : BitVec 32 := Scalar.addi v14 v15
  let c4_i32 : BitVec 32 := 4#32
  let v249 : BitVec 32 := Scalar.addi v16 c4_i32
  let v250 : Index := Scalar.indexCast v249
  ![v250.toNat]
def k1_mult5 (v251 : BitVec 32) : BitVec 32 :=
  let c1024_i32_63 : BitVec 32 := 1024#32
  let v257 : BitVec 32 := Scalar.divsi v251 c1024_i32_63
  let c8_i32_64 : BitVec 32 := 8#32
  let v258 : BitVec 32 := Scalar.muli v257 c8_i32_64
  v258

def k1_off10 (v251 : BitVec 32) : Fin 3 → Nat :=
  let c0_74 : Index := 0#32
  let c1024_i32_63 : BitVec 32 := 1024#32
  let v257 : BitVec 32 := Scalar.divsi v251 c1024_i32_63
  let c8_i32_64 : BitVec 32 := 8#32
  let v258 : BitVec 32 := Scalar.muli v257 c8_i32_64
  let v298 : BitVec 32 := v258
  let v299 : Index := Scalar.indexCast v298
  let c0_75 : Index := 0#32
  ![0, v299.toNat, 0]

def k1_chk5 (v251 : BitVec 32) : Prop :=
  (8 ∣ (k1_mult5 v251).toNat) ∧
  (∀ a, (k1_off10 v251) a + S1x136x128.size a ≤ S1x4096x128.size a)
theorem k1_mult5_dvd : ∀ (v251 : BitVec 32) (k1_hw5 : k1_chk5 v251), 8 ∣ (k1_mult5 v251).toNat := fun v251 k1_hw5 => k1_hw5.1
theorem k1_off10_inb : ∀ (v251 : BitVec 32) (k1_hw5 : k1_chk5 v251), ∀ a, (k1_off10 v251) a + S1x136x128.size a ≤ S1x4096x128.size a := fun v251 k1_hw5 => k1_hw5.2

def k1_off11 (i : grid1.Coords) : Fin 1 → Nat :=
  let arg0 : BitVec 32 := BitVec.ofNat 32 (i 0).val
  let c2048_i32 : BitVec 32 := 2048#32
  let v14 : BitVec 32 := Scalar.muli arg0 c2048_i32
  let arg1 : BitVec 32 := BitVec.ofNat 32 (i 1).val
  let c8_i32 : BitVec 32 := 8#32
  let v15 : BitVec 32 := Scalar.muli arg1 c8_i32
  let v16 : BitVec 32 := Scalar.addi v14 v15
  let c5_i32 : BitVec 32 := 5#32
  let v307 : BitVec 32 := Scalar.addi v16 c5_i32
  let v308 : Index := Scalar.indexCast v307
  ![v308.toNat]
def k1_mult6 (v309 : BitVec 32) : BitVec 32 :=
  let c1024_i32_78 : BitVec 32 := 1024#32
  let v315 : BitVec 32 := Scalar.divsi v309 c1024_i32_78
  let c8_i32_79 : BitVec 32 := 8#32
  let v316 : BitVec 32 := Scalar.muli v315 c8_i32_79
  v316

def k1_off12 (v309 : BitVec 32) : Fin 3 → Nat :=
  let c0_89 : Index := 0#32
  let c1024_i32_78 : BitVec 32 := 1024#32
  let v315 : BitVec 32 := Scalar.divsi v309 c1024_i32_78
  let c8_i32_79 : BitVec 32 := 8#32
  let v316 : BitVec 32 := Scalar.muli v315 c8_i32_79
  let v356 : BitVec 32 := v316
  let v357 : Index := Scalar.indexCast v356
  let c0_90 : Index := 0#32
  ![0, v357.toNat, 0]

def k1_chk6 (v309 : BitVec 32) : Prop :=
  (8 ∣ (k1_mult6 v309).toNat) ∧
  (∀ a, (k1_off12 v309) a + S1x136x128.size a ≤ S1x4096x128.size a)
theorem k1_mult6_dvd : ∀ (v309 : BitVec 32) (k1_hw6 : k1_chk6 v309), 8 ∣ (k1_mult6 v309).toNat := fun v309 k1_hw6 => k1_hw6.1
theorem k1_off12_inb : ∀ (v309 : BitVec 32) (k1_hw6 : k1_chk6 v309), ∀ a, (k1_off12 v309) a + S1x136x128.size a ≤ S1x4096x128.size a := fun v309 k1_hw6 => k1_hw6.2

def k1_off13 (i : grid1.Coords) : Fin 1 → Nat :=
  let arg0 : BitVec 32 := BitVec.ofNat 32 (i 0).val
  let c2048_i32 : BitVec 32 := 2048#32
  let v14 : BitVec 32 := Scalar.muli arg0 c2048_i32
  let arg1 : BitVec 32 := BitVec.ofNat 32 (i 1).val
  let c8_i32 : BitVec 32 := 8#32
  let v15 : BitVec 32 := Scalar.muli arg1 c8_i32
  let v16 : BitVec 32 := Scalar.addi v14 v15
  let c6_i32 : BitVec 32 := 6#32
  let v365 : BitVec 32 := Scalar.addi v16 c6_i32
  let v366 : Index := Scalar.indexCast v365
  ![v366.toNat]
def k1_mult7 (v367 : BitVec 32) : BitVec 32 :=
  let c1024_i32_93 : BitVec 32 := 1024#32
  let v373 : BitVec 32 := Scalar.divsi v367 c1024_i32_93
  let c8_i32_94 : BitVec 32 := 8#32
  let v374 : BitVec 32 := Scalar.muli v373 c8_i32_94
  v374

def k1_off14 (v367 : BitVec 32) : Fin 3 → Nat :=
  let c0_104 : Index := 0#32
  let c1024_i32_93 : BitVec 32 := 1024#32
  let v373 : BitVec 32 := Scalar.divsi v367 c1024_i32_93
  let c8_i32_94 : BitVec 32 := 8#32
  let v374 : BitVec 32 := Scalar.muli v373 c8_i32_94
  let v414 : BitVec 32 := v374
  let v415 : Index := Scalar.indexCast v414
  let c0_105 : Index := 0#32
  ![0, v415.toNat, 0]

def k1_chk7 (v367 : BitVec 32) : Prop :=
  (8 ∣ (k1_mult7 v367).toNat) ∧
  (∀ a, (k1_off14 v367) a + S1x136x128.size a ≤ S1x4096x128.size a)
theorem k1_mult7_dvd : ∀ (v367 : BitVec 32) (k1_hw7 : k1_chk7 v367), 8 ∣ (k1_mult7 v367).toNat := fun v367 k1_hw7 => k1_hw7.1
theorem k1_off14_inb : ∀ (v367 : BitVec 32) (k1_hw7 : k1_chk7 v367), ∀ a, (k1_off14 v367) a + S1x136x128.size a ≤ S1x4096x128.size a := fun v367 k1_hw7 => k1_hw7.2

def k1_off15 (i : grid1.Coords) : Fin 1 → Nat :=
  let arg0 : BitVec 32 := BitVec.ofNat 32 (i 0).val
  let c2048_i32 : BitVec 32 := 2048#32
  let v14 : BitVec 32 := Scalar.muli arg0 c2048_i32
  let arg1 : BitVec 32 := BitVec.ofNat 32 (i 1).val
  let c8_i32 : BitVec 32 := 8#32
  let v15 : BitVec 32 := Scalar.muli arg1 c8_i32
  let v16 : BitVec 32 := Scalar.addi v14 v15
  let c7_i32 : BitVec 32 := 7#32
  let v423 : BitVec 32 := Scalar.addi v16 c7_i32
  let v424 : Index := Scalar.indexCast v423
  ![v424.toNat]
def k1_mult8 (v425 : BitVec 32) : BitVec 32 :=
  let c1024_i32_108 : BitVec 32 := 1024#32
  let v431 : BitVec 32 := Scalar.divsi v425 c1024_i32_108
  let c8_i32_109 : BitVec 32 := 8#32
  let v432 : BitVec 32 := Scalar.muli v431 c8_i32_109
  v432

def k1_off16 (v425 : BitVec 32) : Fin 3 → Nat :=
  let c0_119 : Index := 0#32
  let c1024_i32_108 : BitVec 32 := 1024#32
  let v431 : BitVec 32 := Scalar.divsi v425 c1024_i32_108
  let c8_i32_109 : BitVec 32 := 8#32
  let v432 : BitVec 32 := Scalar.muli v431 c8_i32_109
  let v472 : BitVec 32 := v432
  let v473 : Index := Scalar.indexCast v472
  let c0_120 : Index := 0#32
  ![0, v473.toNat, 0]

def k1_chk8 (v425 : BitVec 32) : Prop :=
  (8 ∣ (k1_mult8 v425).toNat) ∧
  (∀ a, (k1_off16 v425) a + S1x136x128.size a ≤ S1x4096x128.size a)
theorem k1_mult8_dvd : ∀ (v425 : BitVec 32) (k1_hw8 : k1_chk8 v425), 8 ∣ (k1_mult8 v425).toNat := fun v425 k1_hw8 => k1_hw8.1
theorem k1_off16_inb : ∀ (v425 : BitVec 32) (k1_hw8 : k1_chk8 v425), ∀ a, (k1_off16 v425) a + S1x136x128.size a ≤ S1x4096x128.size a := fun v425 k1_hw8 => k1_hw8.2

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S4096 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .smem S4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .smem S2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := .none

abbrev stage2_0 : Fin 1 → Memref sig .tc .vmem S2x4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4096x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
-- ==== KernelIdeal.lean ====
variable {F : FTy → Type} [FloatOps F] [Named F]
def κ : String → Option EReal := fun
  | "half_dur" => some ((2048 / 11025 : ℝ) : EReal)
  | "inv_sr" => some ((1 / 44100 : ℝ) : EReal)
  | "pi" => some ((Real.pi : ℝ) : EReal)
  | "two_pi" => some ((2 * Real.pi : ℝ) : EReal)
  | _ => none
-- ==== ReferenceIdeal.lean ====
abbrev S_ : Shape := ⟨0, ![]⟩
abbrev S4096 : Shape := ⟨1, ![4096]⟩
abbrev S16384 : Shape := ⟨1, ![16384]⟩
abbrev S4096x1 : Shape := ⟨2, ![4096, 1]⟩
abbrev S1x16384 : Shape := ⟨2, ![1, 16384]⟩
abbrev S4096x16384 : Shape := ⟨2, ![4096, 16384]⟩
abbrev S524288 : Shape := ⟨1, ![524288]⟩
abbrev S4096x16384x1 : Shape := ⟨3, ![4096, 16384, 1]⟩

abbrev nBuf : Space → Nat
  | .hbm => 161
  | .vmem => 0
  | .smem => 0
  | _ => 0

abbrev hbmTy0_0 (i : Nat) : BufTy := match i % 128 with
  | 0 => ⟨S_, .f32⟩
  | 1 => ⟨S_, .f32⟩
  | 2 => ⟨S4096, .f32⟩
  | 3 => ⟨S4096, .i32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S4096, .f32⟩
  | 11 => ⟨S_, .f32⟩
  | 12 => ⟨S_, .f32⟩
  | 13 => ⟨S_, .f32⟩
  | 14 => ⟨S_, .f32⟩
  | 15 => ⟨S_, .f32⟩
  | 16 => ⟨S4096, .f32⟩
  | 17 => ⟨S4096, .f32⟩
  | 18 => ⟨S4096, .f32⟩
  | 19 => ⟨S4096, .f32⟩
  | 20 => ⟨S4096, .f32⟩
  | 21 => ⟨S4096, .f32⟩
  | 22 => ⟨S_, .f32⟩
  | 23 => ⟨S4096, .f32⟩
  | 24 => ⟨S4096, .f32⟩
  | 25 => ⟨S4096, .f32⟩
  | 26 => ⟨S4096, .f32⟩
  | 27 => ⟨S_, .f32⟩
  | 28 => ⟨S4096, .f32⟩
  | 29 => ⟨S4096, .f32⟩
  | 30 => ⟨S_, .f32⟩
  | 31 => ⟨S4096, .f32⟩
  | 32 => ⟨S4096, .f32⟩
  | 33 => ⟨S_, .f32⟩
  | 34 => ⟨S4096, .f32⟩
  | 35 => ⟨S4096, .f32⟩
  | 36 => ⟨S_, .f32⟩
  | 37 => ⟨S_, .f32⟩
  | 38 => ⟨S4096, .f32⟩
  | 39 => ⟨S4096, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S16384, .f32⟩
  | 53 => ⟨S_, .f32⟩
  | 54 => ⟨S16384, .f32⟩
  | 55 => ⟨S16384, .f32⟩
  | 56 => ⟨S_, .f32⟩
  | 57 => ⟨S_, .f32⟩
  | 58 => ⟨S_, .f32⟩
  | 59 => ⟨S_, .f32⟩
  | 60 => ⟨S_, .f32⟩
  | 61 => ⟨S16384, .f32⟩
  | 62 => ⟨S16384, .f32⟩
  | 63 => ⟨S_, .f32⟩
  | 64 => ⟨S_, .i1⟩
  | 65 => ⟨S_, .f32⟩
  | 66 => ⟨S_, .f32⟩
  | 67 => ⟨S_, .f32⟩
  | 68 => ⟨S_, .f32⟩
  | 69 => ⟨S_, .i1⟩
  | 70 => ⟨S_, .f32⟩
  | 71 => ⟨S_, .f32⟩
  | 72 => ⟨S16384, .f32⟩
  | 73 => ⟨S16384, .f32⟩
  | 74 => ⟨S16384, .f32⟩
  | 75 => ⟨S_, .f32⟩
  | 76 => ⟨S_, .f32⟩
  | 77 => ⟨S16384, .f32⟩
  | 78 => ⟨S16384, .f32⟩
  | 79 => ⟨S16384, .f32⟩
  | 80 => ⟨S_, .f32⟩
  | 81 => ⟨S_, .f32⟩
  | 82 => ⟨S_, .f32⟩
  | 83 => ⟨S_, .f32⟩
  | 84 => ⟨S16384, .f32⟩
  | 85 => ⟨S16384, .f32⟩
  | 86 => ⟨S16384, .f32⟩
  | 87 => ⟨S_, .f32⟩
  | 88 => ⟨S16384, .f32⟩
  | 89 => ⟨S16384, .f32⟩
  | 90 => ⟨S16384, .f32⟩
  | 91 => ⟨S16384, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S4096x1, .f32⟩
  | 99 => ⟨S4096x1, .f32⟩
  | 100 => ⟨S4096x1, .f32⟩
  | 101 => ⟨S1x16384, .f32⟩
  | 102 => ⟨S4096x16384, .f32⟩
  | 103 => ⟨S4096x16384, .f32⟩
  | 104 => ⟨S4096x16384, .f32⟩
  | 105 => ⟨S4096x16384, .f32⟩
  | 106 => ⟨S4096x1, .f32⟩
  | 107 => ⟨S4096x16384, .f32⟩
  | 108 => ⟨S4096x16384, .f32⟩
  | 109 => ⟨S1x16384, .f32⟩
  | 110 => ⟨S4096x16384, .f32⟩
  | 111 => ⟨S4096x16384, .f32⟩
  | 112 => ⟨S4096, .f32⟩
  | 113 => ⟨S4096x1, .f32⟩
  | 114 => ⟨S4096x16384, .f32⟩
  | 115 => ⟨S4096x16384, .f32⟩
  | 116 => ⟨S4096x1, .i32⟩
  | 117 => ⟨S16384, .i32⟩
  | 118 => ⟨S1x16384, .i32⟩
  | 119 => ⟨S4096x16384, .i32⟩
  | 120 => ⟨S4096x16384, .i32⟩
  | 121 => ⟨S4096x16384, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S_, .f32⟩

abbrev hbmTy0_1 (i : Nat) : BufTy := match i % 128 with
  | 0 => ⟨S4096x16384, .i32⟩
  | 1 => ⟨S4096x16384, .i32⟩
  | 2 => ⟨S_, .i32⟩
  | 3 => ⟨S4096x16384, .i32⟩
  | 4 => ⟨S4096x16384, .i1⟩
  | 5 => ⟨S_, .i32⟩
  | 6 => ⟨S4096x16384, .i32⟩
  | 7 => ⟨S4096x16384, .i1⟩
  | 8 => ⟨S_, .i32⟩
  | 9 => ⟨S_, .i1⟩
  | 10 => ⟨S4096x16384, .i1⟩
  | 11 => ⟨S4096x16384, .i1⟩
  | 12 => ⟨S4096x16384, .i1⟩
  | 13 => ⟨S4096x16384, .i32⟩
  | 14 => ⟨S4096x16384, .i32⟩
  | 15 => ⟨S4096x16384, .i32⟩
  | 16 => ⟨S_, .f32⟩
  | 17 => ⟨S524288, .f32⟩
  | 18 => ⟨S_, .i32⟩
  | 19 => ⟨S4096x16384, .i32⟩
  | 20 => ⟨S4096x16384, .i1⟩
  | 21 => ⟨S_, .i32⟩
  | 22 => ⟨S4096x16384, .i32⟩
  | 23 => ⟨S4096x16384, .i32⟩
  | 24 => ⟨S4096x16384, .i32⟩
  | 25 => ⟨S4096x16384x1, .i32⟩
  | 26 => ⟨S524288, .f32⟩
  | 27 => ⟨S524288, .f32⟩
  | 28 => ⟨S_, .f32⟩
  | 29 => ⟨S_, .f32⟩
  | 30 => ⟨S_, .f32⟩
  | 31 => ⟨S524288, .f32⟩
  | 32 => ⟨S524288, .f32⟩
  | _ => ⟨S_, .f32⟩

abbrev hbmTy (i : Nat) : BufTy := match i / 128 with
  | 0 => hbmTy0_0 i
  | 1 => hbmTy0_1 i
  | _ => ⟨S_, .f32⟩

abbrev bufTy : (tb : Table) → Fin (tcTables nBuf tb) → BufTy
  | .hbm, ⟨i, _⟩ => hbmTy i
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_cst_11 : Ref sig .tc := ⟨.hbm, 45, rfl⟩
abbrev main_v29 : Ref sig .tc := ⟨.hbm, 46, rfl⟩
abbrev main_v30 : Ref sig .tc := ⟨.hbm, 47, rfl⟩
abbrev main_cst_12 : Ref sig .tc := ⟨.hbm, 48, rfl⟩
abbrev main_v31 : Ref sig .tc := ⟨.hbm, 49, rfl⟩
abbrev main_cst_13 : Ref sig .tc := ⟨.hbm, 50, rfl⟩
abbrev main_v32 : Ref sig .tc := ⟨.hbm, 51, rfl⟩
abbrev main_v33 : Ref sig .tc := ⟨.hbm, 52, rfl⟩
abbrev main_cst_14 : Ref sig .tc := ⟨.hbm, 53, rfl⟩
abbrev main_v34 : Ref sig .tc := ⟨.hbm, 54, rfl⟩
abbrev main_v35 : Ref sig .tc := ⟨.hbm, 55, rfl⟩
abbrev main_cst_15 : Ref sig .tc := ⟨.hbm, 56, rfl⟩
abbrev main_cst_16 : Ref sig .tc := ⟨.hbm, 57, rfl⟩
abbrev main_v36 : Ref sig .tc := ⟨.hbm, 58, rfl⟩
abbrev main_cst_17 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_18 : Ref sig .tc := ⟨.hbm, 63, rfl⟩
abbrev main_v40 : Ref sig .tc := ⟨.hbm, 64, rfl⟩
abbrev main_cst_19 : Ref sig .tc := ⟨.hbm, 65, rfl⟩
abbrev main_call0_v0 : Ref sig .tc := ⟨.hbm, 66, rfl⟩
abbrev main_v41 : Ref sig .tc := ⟨.hbm, 67, rfl⟩
abbrev main_cst_20 : Ref sig .tc := ⟨.hbm, 68, rfl⟩
abbrev main_v42 : Ref sig .tc := ⟨.hbm, 69, rfl⟩
abbrev main_cst_21 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_22 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_23 : Ref sig .tc := ⟨.hbm, 80, rfl⟩
abbrev main_v51 : Ref sig .tc := ⟨.hbm, 81, rfl⟩
abbrev main_cst_24 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_25 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_26 : Ref sig .tc := ⟨.hbm, 92, rfl⟩
abbrev main_v60 : Ref sig .tc := ⟨.hbm, 93, rfl⟩
abbrev main_cst_27 : Ref sig .tc := ⟨.hbm, 94, rfl⟩
abbrev main_v61 : Ref sig .tc := ⟨.hbm, 95, rfl⟩
abbrev main_cst_28 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_c : Ref sig .tc := ⟨.hbm, 122, rfl⟩
abbrev main_call2_v0 : Ref sig .tc := ⟨.hbm, 123, rfl⟩
abbrev main_call2_c : Ref sig .tc := ⟨.hbm, 124, rfl⟩
abbrev main_call2_v1 : Ref sig .tc := ⟨.hbm, 125, rfl⟩
abbrev main_call2_c_0 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_c_1 : Ref sig .tc := ⟨.hbm, 130, rfl⟩
abbrev main_call2_v5 : Ref sig .tc := ⟨.hbm, 131, rfl⟩
abbrev main_call2_v6 : Ref sig .tc := ⟨.hbm, 132, rfl⟩
abbrev main_call2_c_2 : Ref sig .tc := ⟨.hbm, 133, rfl⟩
abbrev main_call2_v7 : Ref sig .tc := ⟨.hbm, 134, rfl⟩
abbrev main_call2_v8 : Ref sig .tc := ⟨.hbm, 135, rfl⟩
abbrev main_call2_c_3 : Ref sig .tc := ⟨.hbm, 136, rfl⟩
abbrev main_call2_v9 : Ref sig .tc := ⟨.hbm, 137, rfl⟩
abbrev main_call2_v10 : Ref sig .tc := ⟨.hbm, 138, rfl⟩
abbrev main_call2_v11 : Ref sig .tc := ⟨.hbm, 139, rfl⟩
abbrev main_call2_v12 : Ref sig .tc := ⟨.hbm, 140, rfl⟩
abbrev main_call2_v13 : Ref sig .tc := ⟨.hbm, 141, rfl⟩
abbrev main_call2_v14 : Ref sig .tc := ⟨.hbm, 142, rfl⟩
abbrev main_v87 : Ref sig .tc := ⟨.hbm, 143, rfl⟩
abbrev main_cst_29 : Ref sig .tc := ⟨.hbm, 144, rfl⟩
abbrev main_v88 : Ref sig .tc := ⟨.hbm, 145, rfl⟩
abbrev main_c_30 : Ref sig .tc := ⟨.hbm, 146, rfl⟩
abbrev main_v89 : Ref sig .tc := ⟨.hbm, 147, rfl⟩
abbrev main_v90 : Ref sig .tc := ⟨.hbm, 148, rfl⟩
abbrev main_c_31 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_call3_v0 : Ref sig .tc := ⟨.hbm, 155, rfl⟩
abbrev main_call3_cst : Ref sig .tc := ⟨.hbm, 156, rfl⟩
abbrev main_call3_v1 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩

abbrev nD : Nat := 1
abbrev τ : Topo := Topo.v7x

variable {F : FTy → Type} [FloatOps F]
-- ==== Proof.Ideal.Body.lean ====
/- What one grid step of the main call does to its block: eight grains, one after the other, each read from the four tables
   at its own index and added into the window of the block at its onset. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Frame
public import Idealize.ShloMosaic.Lib.Pipeline.Value
public import Idealize.ShloMosaic.Lib.Tactic

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UU : Type := UR sig nD τ

local notation "𝕄" => MT nD τ sig Unit (Elt F) ℕ UU ℕ

/-- The contents of the buffer behind a memref. -/
abbrev Bf (c : Dev nD) {sp : Space} {S : Shape} {e : EltTy} (M : Memref sig .tc sp S e) : Type := Buf (Elt F) (M.view.loc (c : Thread nD τ))
/-- That buffer held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The word of a table at an offset. -/
def wordAt {s : Shape} {α : Type} (X : s.Idx → α) (r : Rect s) (h : r.shape.numel = 1) : α :=
  X (r.toLoadRect.idx (Shape.Idx.first (h ▸ Nat.one_pos)))

/-- The contents a store through a rectangle leaves, read back. -/
theorem read_writes_overlay {sig : RefSig} {κ : Kind} {sp : Space} {s : Shape} {e : EltTy} (v : View sig κ sp s e) {Val : EltTy → Type}
    (f : v.ty.Contents Val) (p : View.Piece Val s e) (L : List (View.Piece Val s e)) :
    v.read Val (v.writes Val f (p :: L)) = p.1.overlay (v.read Val (v.writes Val f L)) p.2 := by
  funext y
  by_cases hy : y ∈ p.1.set
  · obtain ⟨x, rfl⟩ := p.1.exists_idx_of_mem hy
    refine Eq.trans ?_ (p.1.overlay_emb _ _ x).symm
    exact View.read_writes_cons_emb v f p.1 p.2 L x
  · rw [Rect.overlay_of_not_mem _ _ _ hy, View.read_writes_cons_miss v f p L y hy]

/-- A store of a whole block, read back. -/
theorem read_writes_whole {sig : RefSig} {κ : Kind} {sp : Space} {s : Shape} {e : EltTy} (v : View sig κ sp s e) {Val : EltTy → Type}
    (f : v.ty.Contents Val) {off : Fin s.rank → Nat} (ho : off = fun _ => 0) (inb : ∀ a, off a + s.size a ≤ s.size a) (w : s.Idx → Val e) :
    v.read Val (v.writes Val f [⟨Rect.unit off s.size inb, w⟩]) = w := by
  subst ho
  funext y
  have h := View.read_writes_cons_emb v f (Rect.whole s) w [] y
  rw [Rect.emb_whole_apply] at h
  exact h

/-- One grain's window of the block after its value is added: `g` and `ig` the slope and its inverse, `o` the onset, `f` the
    frequency, `sc` the scale, `old` the window before. -/
def grainPay (g ig : Elt F .f32) (o : Elt F .i32) (f sc : Elt F .f32) (old : Vec F S1x136x128 .f32) : FVec F S1x136x128 .f32 :=
  k1_pay9 (k1_pay6 ig f) sc (k1_pay7 o) (k1_pay8 g o) old

/-- One grain added into the block. -/
def grainStep (g ig : Elt F .f32) (o : Elt F .i32) (f sc : Elt F .f32) (X : S1x4096x128.Idx → Elt F .f32) : S1x4096x128.Idx → Elt F .f32 :=
  open Classical in
  if h : k1_chk1 o then
    (Rect.unit (s := S1x4096x128) (k1_off2 o) S1x136x128.size (k1_off2_inb o h)).overlay X
      (grainPay g ig o f sc fun x => X ((Rect.unit (s := S1x4096x128) (k1_off2 o) S1x136x128.size (k1_off2_inb o h)).toLoadRect.idx x))
  else X

/-- The grain of the tables at one offset added into the block. -/
def tableStep (X2 : S4096.Idx → Elt F .i32) (X3 X4 : S4096.Idx → Elt F .f32) (X5 : S2.Idx → Elt F .f32)
    (r : Rect S4096) (h : r.shape.numel = 1) (X : S1x4096x128.Idx → Elt F .f32) : S1x4096x128.Idx → Elt F .f32 :=
  grainStep (wordAt X5 (Rect.unit (s := S2) ![0] S1.size inb_S2_S1_0) numel1_S1) (wordAt X5 (Rect.unit (s := S2) ![1] S1.size inb_S2_S1_1) numel1_S1)
    (wordAt X2 r h) (wordAt X3 r h) (wordAt X4 r h) X

/-- The block a step starts from: zeros where the second grid coordinate is zero. -/
def startBlock (i : grid1.Coords) (X : S1x4096x128.Idx → Elt F .f32) : S1x4096x128.Idx → Elt F .f32 :=
  if Scalar.cmpi .ne (Scalar.extui (Scalar.cmpi .eq (BitVec.ofNat 32 (i 1).val) 0#32) : BitVec 32) 0#32 = 1#1 then k1_pay2 else X

/-- One grid step: eight grains. -/
def mainStep (i : grid1.Coords) (X2 : S4096.Idx → Elt F .i32) (X3 X4 : S4096.Idx → Elt F .f32) (X5 : S2.Idx → Elt F .f32)
    (X : S1x4096x128.Idx → Elt F .f32) : S1x4096x128.Idx → Elt F .f32 :=
  tableStep X2 X3 X4 X5 (Rect.unit (s := S4096) (k1_off15 i) S1.size (k1_off15_inb i)) numel1_S1 <|
  tableStep X2 X3 X4 X5 (Rect.unit (s := S4096) (k1_off13 i) S1.size (k1_off13_inb i)) numel1_S1 <|
  tableStep X2 X3 X4 X5 (Rect.unit (s := S4096) (k1_off11 i) S1.size (k1_off11_inb i)) numel1_S1 <|
  tableStep X2 X3 X4 X5 (Rect.unit (s := S4096) (k1_off9 i) S1.size (k1_off9_inb i)) numel1_S1 <|
  tableStep X2 X3 X4 X5 (Rect.unit (s := S4096) (k1_off7 i) S1.size (k1_off7_inb i)) numel1_S1 <|
  tableStep X2 X3 X4 X5 (Rect.unit (s := S4096) (k1_off5 i) S1.size (k1_off5_inb i)) numel1_S1 <|
  tableStep X2 X3 X4 X5 (Rect.unit (s := S4096) (k1_off3 i) S1.size (k1_off3_inb i)) numel1_S1 <|
  tableStep X2 X3 X4 X5 (Rect.unit (s := S4096) (k1_off1 i) S1.size (k1_off1_inb i)) numel1_S1 <|
  startBlock i X

/-- A store of a grain's window over earlier stores is that grain's step. -/
theorem read_writes_grain {sig : RefSig} {κ : Kind} {sp : Space} (v : View sig κ sp S1x4096x128 .f32) (f : v.ty.Contents (Elt F))
    (g ig : Elt F .f32) (o : Elt F .i32) (fr sc : Elt F .f32) (p : View.Piece (Elt F) S1x4096x128 .f32) (L : List (View.Piece (Elt F) S1x4096x128 .f32))
    (X : S1x4096x128.Idx → Elt F .f32) (h : k1_chk1 o)
    (hp : p = ⟨Rect.unit (s := S1x4096x128) (k1_off2 o) S1x136x128.size (k1_off2_inb o h),
        grainPay g ig o fr sc (v.readAt (Elt F) (Rect.unit (s := S1x4096x128) (k1_off2 o) S1x136x128.size (k1_off2_inb o h)).toLoadRect
          (v.writes (Elt F) f L))⟩)
    (hX : v.read (Elt F) (v.writes (Elt F) f L) = X) :
    v.read (Elt F) (v.writes (Elt F) f (p :: L)) = grainStep g ig o fr sc X := by
  subst hX hp
  rw [read_writes_overlay]
  unfold grainStep
  rw [dif_pos h]
  rfl

/-- The main call's body at a grid point: from the four tables and any block, it ends with the tables unchanged and the block
    stepped. `hR`: every onset of the table is in range. -/
theorem mainRun (c : Dev nD) (i : grid1.Coords) (M2 : Memref sig .tc .smem S4096 .i32) (h2 : M2.IsWhole) (M3 : Memref sig .tc .smem S4096 .f32) (h3 : M3.IsWhole)
    (M4 : Memref sig .tc .smem S4096 .f32) (h4 : M4.IsWhole) (M5 : Memref sig .tc .smem S2 .f32) (h5 : M5.IsWhole) (M6 : Memref sig .tc .vmem S1x4096x128 .f32) (h6 : M6.IsWhole)
    (f2 : Bf (F := F) c M2) (f3 : Bf (F := F) c M3) (f4 : Bf (F := F) c M4) (f5 : Bf (F := F) c M5) (f6 : Bf (F := F) c M6) (E : Set ℕ)
    (Q : PUnit → sProp 𝕄)
    (hR : ∀ (r : Rect S4096) (h : r.shape.numel = 1), k1_chk1 (wordAt (M2.view.read (Elt F) f2) r h)) :
    iprop(pt c M2 f2 ∗ pt c M3 f3 ∗ pt c M4 f4 ∗ pt c M5 f5 ∗ pt c M6 f6
      ∗ ((pt c M2 f2 ∗ pt c M3 f3 ∗ pt c M4 f4 ∗ pt c M5 f5 ∗ ∃ f6', ⌜M6.view.read (Elt F) f6' = mainStep i (M2.view.read (Elt F) f2)
            (M3.view.read (Elt F) f3) (M4.view.read (Elt F) f4) (M5.view.read (Elt F) f5) (M6.view.read (Elt F) f6)⌝ ∗ pt c M6 f6') -∗ Q ⟨⟩))
      ⊢ wp frame (wpE (defs₀ (F := F)) Variants.none c none) E (cc1__main_kernel i M2 h2 M3 h3 M4 h4 M5 h5 M6 h6) Q := by
  rw [cc1__main_kernel_eq_skeleton]
  have hR' : ∀ (off : Fin 1 → Nat) (h : ∀ a, off a + S1.size a ≤ S4096.size a),
      k1_chk1 (View.readAt (Elt F) M2.view (Rect.unit (s := S4096) off S1.size h).toLoadRect f2 (Shape.Idx.first (numel1_S1.symm ▸ Nat.one_pos))) :=
    fun off h => hR (Rect.unit (s := S4096) off S1.size h) numel1_S1
  iintro ⟨H2, H3, H4, H5, H6, Hk⟩
  unfold cc1__main_kernel_skel
  sl_exec! (disch := exact hR' _ _)
  sl_step
  iapply Hk
  isplitl [H2]; · iexact H2
  isplitl [H3]; · iexact H3
  isplitl [H4]; · iexact H4
  isplitl [H5]; · iexact H5
  iexists _
  isplitr
  swap
  · iexact H6
  ipureintro
  unfold mainStep tableStep
  refine read_writes_grain _ _ _ _ _ _ _ _ _ _ (hR _ _) rfl ?_
  refine read_writes_grain _ _ _ _ _ _ _ _ _ _ (hR _ _) rfl ?_
  refine read_writes_grain _ _ _ _ _ _ _ _ _ _ (hR _ _) rfl ?_
  refine read_writes_grain _ _ _ _ _ _ _ _ _ _ (hR _ _) rfl ?_
  refine read_writes_grain _ _ _ _ _ _ _ _ _ _ (hR _ _) rfl ?_
  refine read_writes_grain _ _ _ _ _ _ _ _ _ _ (hR _ _) rfl ?_
  refine read_writes_grain _ _ _ _ _ _ _ _ _ _ (hR _ _) rfl ?_
  refine read_writes_grain _ _ _ _ _ _ _ _ _ _ (hR _ _) rfl ?_
  rw [View.writes_nil]
  show _ = (if mainRun.sl.v2 i = 1#1 then k1_pay2 else View.read (Elt F) M6.view f6)
  split
  · exact read_writes_whole M6.view f6 (off := ![0, 0, 0]) (by funext a; fin_cases a <;> rfl) _ _
  · rfl

/-- The word of a table, read through a view of it. -/
theorem readAt_word {sig : RefSig} {κ : Kind} {sp : Space} {s : Shape} {e : EltTy} (v : View sig κ sp s e) {Val : EltTy → Type}
    (f : v.ty.Contents Val) (r : Rect s) (h : r.shape.numel = 1) :
    View.readAt Val v r.toLoadRect f (Shape.Idx.first (h ▸ Nat.one_pos)) = wordAt (v.read Val f) r h := rfl

/-- The scale table the prologue writes, from the density and the frequencies. -/
def proScale (X0 : S1x1.Idx → Elt F .f32) (X2 : S32x128.Idx → Elt F .f32) : S32x128.Idx → Elt F .f32 :=
  k0_pay2 (wordAt X0 (Rect.unit (s := S1x1) ![0, 0] S1x1.size inb_S1x1_S1x1_0_0) numel1_S1x1)
    (View.ld X2 (Rect.unit (s := S32x128) ![0, 0] S32x128.size inb_S32x128_S32x128_0_0))

/-- The slope table the prologue writes, from the slope's angle. -/
def proMisc (X1 : S1x1.Idx → Elt F .f32) : S1x128.Idx → Elt F .f32 :=
  k0_pay1 (wordAt X1 (Rect.unit (s := S1x1) ![0, 0] S1x1.size inb_S1x1_S1x1_0_0) numel1_S1x1) (Scalar.ofBits .f32 0x3F800000#32)

/-- The signal the epilogue writes, from the two partial sums. -/
def epiOut (X : S2x4096x128.Idx → Elt F .f32) : S4096x128.Idx → Elt F .f32 :=
  k2_pay1 (View.ld X (Rect.unit (s := S2x4096x128) ![0, 0, 0] S1x4096x128.size inb_S2x4096x128_S1x4096x128_0_0_0))
    (View.ld X (Rect.unit (s := S2x4096x128) ![1, 0, 0] S1x4096x128.size inb_S2x4096x128_S1x4096x128_1_0_0))

/-- The prologue's body: its inputs unchanged, its two results as above. -/
theorem proRun (c : Dev nD) (M0 : Memref sig .tc .smem S1x1 .f32) (h0 : M0.IsWhole) (M1 : Memref sig .tc .smem S1x1 .f32) (h1 : M1.IsWhole)
    (M2 : Memref sig .tc .vmem S32x128 .f32) (h2 : M2.IsWhole) (M3 : Memref sig .tc .vmem S32x128 .f32) (h3 : M3.IsWhole) (M4 : Memref sig .tc .vmem S1x128 .f32) (h4 : M4.IsWhole)
    (f0 : Bf (F := F) c M0) (f1 : Bf (F := F) c M1) (f2 : Bf (F := F) c M2) (f3 : Bf (F := F) c M3) (f4 : Bf (F := F) c M4) (E : Set ℕ) (Q : PUnit → sProp 𝕄) :
    iprop(pt c M0 f0 ∗ pt c M1 f1 ∗ pt c M2 f2 ∗ pt c M3 f3 ∗ pt c M4 f4
      ∗ ((pt c M0 f0 ∗ pt c M1 f1 ∗ pt c M2 f2
          ∗ (∃ f3', ⌜M3.view.read (Elt F) f3' = proScale (M0.view.read (Elt F) f0) (M2.view.read (Elt F) f2)⌝ ∗ pt c M3 f3')
          ∗ ∃ f4', ⌜M4.view.read (Elt F) f4' = proMisc (M1.view.read (Elt F) f1)⌝ ∗ pt c M4 f4') -∗ Q ⟨⟩))
      ⊢ wp frame (wpE (defs₀ (F := F)) Variants.none c none) E (cc0__prologue_kernel M0 h0 M1 h1 M2 h2 M3 h3 M4 h4) Q := by
  rw [cc0__prologue_kernel_eq_skeleton]
  iintro ⟨H0, H1, H2, H3, H4, Hk⟩
  unfold cc0__prologue_kernel_skel
  rw [k0_part1_eq_skeleton]
  unfold k0_part1_skel
  sl_exec!
  sl_step
  iapply Hk
  isplitl [H0]; · iexact H0
  isplitl [H1]; · iexact H1
  isplitl [H2]; · iexact H2
  isplitl [H3]
  · iexists _
    isplitr
    swap
    · iexact H3
    ipureintro
    unfold proRun.sl.H3_1
    rw [read_writes_whole M3.view _ (off := ![0, 0]) (by funext a; fin_cases a <;> rfl)]
    rfl
  · iexists _
    isplitr
    swap
    · iexact H4
    ipureintro
    unfold proRun.sl.H4_1
    rw [read_writes_whole M4.view _ (off := ![0, 0]) (by funext a; fin_cases a <;> rfl)]
    rfl

/-- The epilogue's body: its input unchanged, its result as above. -/
theorem epiRun (c : Dev nD) (M0 : Memref sig .tc .vmem S2x4096x128 .f32) (h0 : M0.IsWhole) (M1 : Memref sig .tc .vmem S4096x128 .f32) (h1 : M1.IsWhole)
    (f0 : Bf (F := F) c M0) (f1 : Bf (F := F) c M1) (E : Set ℕ) (Q : PUnit → sProp 𝕄) :
    iprop(pt c M0 f0 ∗ pt c M1 f1
      ∗ ((pt c M0 f0 ∗ ∃ f1', ⌜M1.view.read (Elt F) f1' = epiOut (M0.view.read (Elt F) f0)⌝ ∗ pt c M1 f1') -∗ Q ⟨⟩))
      ⊢ wp frame (wpE (defs₀ (F := F)) Variants.none c none) E (cc2__epilogue_kernel M0 h0 M1 h1) Q := by
  rw [cc2__epilogue_kernel_eq_skeleton]
  iintro ⟨H0, H1, Hk⟩
  unfold cc2__epilogue_kernel_skel
  sl_exec!
  sl_step
  iapply Hk
  isplitl [H0]; · iexact H0
  iexists _
  isplitr
  swap
  · iexact H1
  ipureintro
  unfold epiRun.sl.H1_1
  rw [read_writes_whole M1.view _ (off := ![0, 0]) (by funext a; fin_cases a <;> rfl)]
  rfl

end Cert.KernelIdeal.Hand
end
-- ==== Proof.Ideal.Regions.lean ====
/- The three calls as regions of the program: what each leaves in its arrays, in terms of the arrays it was entered with. -/
module

public import proofs.«01_k».proof.Proof.Ideal.Body
public import proofs.«01_k».proof.Proof.Gen.KernelIdeal.Regions
public import Idealize.ShloMosaic.Lib.Pipeline.FrameBody
public import Idealize.ShloMosaic.Lib.Pipeline.FrameTail
public import Idealize.ShloMosaic.Lib.Pipeline.RegionArraysS

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg)

variable {F : FTy → Type} [FloatOps F] [Named F]

local notation "𝕄" => MT nD τ sig Unit (Elt F) ℕ UU ℕ

abbrev 𝒱₀ : Variants := Variants.none

/-! ## The blocks of whole-array windows -/

theorem blk1_0 (t : Fin cfg1.N) (f : S4096.Idx → Elt F .i32) : ((cfg1.win 0).blk t).view.read (Elt F) f = f :=
  funext fun y => congrArg f (funext fun a => Fin.ext (win1_0.rect_emb_val_of_index_zero t a (by fin_cases a; rfl) y))
theorem blk1_1 (t : Fin cfg1.N) (f : S4096.Idx → Elt F .f32) : ((cfg1.win 1).blk t).view.read (Elt F) f = f :=
  funext fun y => congrArg f (funext fun a => Fin.ext (win1_1.rect_emb_val_of_index_zero t a (by fin_cases a; rfl) y))
theorem blk1_2 (t : Fin cfg1.N) (f : S4096.Idx → Elt F .f32) : ((cfg1.win 2).blk t).view.read (Elt F) f = f :=
  funext fun y => congrArg f (funext fun a => Fin.ext (win1_2.rect_emb_val_of_index_zero t a (by fin_cases a; rfl) y))
theorem blk1_3 (t : Fin cfg1.N) (f : S2.Idx → Elt F .f32) : ((cfg1.win 3).blk t).view.read (Elt F) f = f :=
  funext fun y => congrArg f (funext fun a => Fin.ext (win1_3.rect_emb_val_of_index_zero t a (by fin_cases a; rfl) y))
theorem blk0_0 (t : Fin cfg0.N) (f : S1x1.Idx → Elt F .f32) : ((cfg0.win 0).blk t).view.read (Elt F) f = f :=
  funext fun y => congrArg f (funext fun a => Fin.ext (win0_0.rect_emb_val_of_index_zero t a (by fin_cases a <;> rfl) y))
theorem blk0_1 (t : Fin cfg0.N) (f : S1x1.Idx → Elt F .f32) : ((cfg0.win 1).blk t).view.read (Elt F) f = f :=
  funext fun y => congrArg f (funext fun a => Fin.ext (win0_1.rect_emb_val_of_index_zero t a (by fin_cases a <;> rfl) y))
theorem blk0_2 (t : Fin cfg0.N) (f : S32x128.Idx → Elt F .f32) : ((cfg0.win 2).blk t).view.read (Elt F) f = f :=
  funext fun y => congrArg f (funext fun a => Fin.ext (win0_2.rect_emb_val_of_index_zero t a (by fin_cases a <;> rfl) y))
theorem blk0_3 (t : Fin cfg0.N) (f : S32x128.Idx → Elt F .f32) : ((cfg0.win 3).blk t).view.read (Elt F) f = f :=
  funext fun y => congrArg f (funext fun a => Fin.ext (win0_3.rect_emb_val_of_index_zero t a (by fin_cases a <;> rfl) y))
theorem blk0_4 (t : Fin cfg0.N) (f : S1x128.Idx → Elt F .f32) : ((cfg0.win 4).blk t).view.read (Elt F) f = f :=
  funext fun y => congrArg f (funext fun a => Fin.ext (win0_4.rect_emb_val_of_index_zero t a (by fin_cases a <;> rfl) y))
theorem blk2_0 (t : Fin cfg2.N) (f : S2x4096x128.Idx → Elt F .f32) : ((cfg2.win 0).blk t).view.read (Elt F) f = f :=
  funext fun y => congrArg f (funext fun a => Fin.ext (win2_0.rect_emb_val_of_index_zero t a (by fin_cases a <;> rfl) y))
theorem blk2_1 (t : Fin cfg2.N) (f : S4096x128.Idx → Elt F .f32) : ((cfg2.win 1).blk t).view.read (Elt F) f = f :=
  funext fun y => congrArg f (funext fun a => Fin.ext (win2_1.rect_emb_val_of_index_zero t a (by fin_cases a <;> rfl) y))

/-! ## The accumulated block of the main call -/

/-- The coordinates of the `n`-th grid point. -/
def crd (n : ℕ) : grid1.Coords := grid1.coords ⟨n % 512, by rw [N_1]; omega⟩

theorem crd_of (t : Fin cfg1.N) : crd t.val = grid1.coords t := by
  have h : t.val < 512 := lt_of_lt_of_eq t.isLt N_1
  unfold crd
  congr 1
  exact Fin.ext (Nat.mod_eq_of_lt h)

/-- The second coordinate of a grid point. -/
theorem coords_one : ∀ t : Fin grid1.N, (grid1.coords t 1).val = t.val % 256 := by decide +kernel
/-- The first coordinate of a grid point. -/
theorem coords_zero : ∀ t : Fin grid1.N, (grid1.coords t 0).val = t.val / 256 := by decide +kernel

/-- At a point whose second coordinate is zero the step starts from zeros. -/
theorem startBlock_zero (i : grid1.Coords) (h : (i 1).val = 0) (X : S1x4096x128.Idx → Elt F .f32) : startBlock i X = k1_pay2 := by
  unfold startBlock; rw [h]; rfl

theorem mainStep_zero (i : grid1.Coords) (h : (i 1).val = 0) (X2 : S4096.Idx → Elt F .i32) (X3 X4 : S4096.Idx → Elt F .f32) (X5 : S2.Idx → Elt F .f32)
    (X Y : S1x4096x128.Idx → Elt F .f32) : mainStep i X2 X3 X4 X5 X = mainStep i X2 X3 X4 X5 Y := by
  unfold mainStep; rw [startBlock_zero i h, startBlock_zero i h]

/-- The block after the `n`-th grid point. -/
def accB (X2 : S4096.Idx → Elt F .i32) (X3 X4 : S4096.Idx → Elt F .f32) (X5 : S2.Idx → Elt F .f32) : ℕ → S1x4096x128.Idx → Elt F .f32
  | 0 => mainStep (crd 0) X2 X3 X4 X5 k1_pay2
  | n + 1 => mainStep (crd (n + 1)) X2 X3 X4 X5 (accB X2 X3 X4 X5 n)

/-! ## The proof data of the three calls -/

variable (U : Dev nD → Valuation τ sig (Elt F))

abbrev Φ0 (c : Dev nD) : sProp 𝕄 := Pipeline.scopedRest (Ix := Unit) (Name := ℕ) (U := UU) (Lvl := ℕ) (Val := Elt F) spec0 c
abbrev Φ1 (c : Dev nD) : sProp 𝕄 := Pipeline.scopedRest (Ix := Unit) (Name := ℕ) (U := UU) (Lvl := ℕ) (Val := Elt F) spec1 c
abbrev Φ2 (c : Dev nD) : sProp 𝕄 := Pipeline.scopedRest (Ix := Unit) (Name := ℕ) (U := UU) (Lvl := ℕ) (Val := Elt F) spec2 c

/-- The prologue's. -/
def dat0 (c : Dev nD) : Dat τ (Elt F) Unit ℕ UU ℕ cfg0 c where
  A w := U c (Proc.devRef .tc (Pipeline.arrRef spec0 w))
  after w _ := match w with
    | ⟨0, _⟩ => U c (Proc.devRef .tc main_v0)
    | ⟨1, _⟩ => U c (Proc.devRef .tc main_v1)
    | ⟨2, _⟩ => U c (Proc.devRef .tc main_v2)
    | ⟨3, _⟩ => proScale (U c (Proc.devRef .tc main_v0)) (U c (Proc.devRef .tc main_v2))
    | ⟨4, _⟩ => proMisc (U c (Proc.devRef .tc main_v1))
  Φ _ := Φ0 c
  q _ := fullShare
  owed _ := 0

/-- The main call's. -/
def dat1 (c : Dev nD) : Dat τ (Elt F) Unit ℕ UU ℕ cfg1 c where
  A w := U c (Proc.devRef .tc (Pipeline.arrRef spec1 w))
  after w t := match w with
    | ⟨0, _⟩ => U c (Proc.devRef .tc main_arg3)
    | ⟨1, _⟩ => U c (Proc.devRef .tc main_arg2)
    | ⟨2, _⟩ => U c (Proc.devRef .tc main_v4)
    | ⟨3, _⟩ => U c (Proc.devRef .tc main_v6)
    | ⟨4, _⟩ => accB (U c (Proc.devRef .tc main_arg3)) (U c (Proc.devRef .tc main_arg2)) (U c (Proc.devRef .tc main_v4)) (U c (Proc.devRef .tc main_v6)) t.val
  Φ _ := Φ1 c
  q _ := fullShare
  owed _ := 0

/-- The epilogue's. -/
def dat2 (c : Dev nD) : Dat τ (Elt F) Unit ℕ UU ℕ cfg2 c where
  A w := U c (Proc.devRef .tc (Pipeline.arrRef spec2 w))
  after w _ := match w with
    | ⟨0, _⟩ => U c (Proc.devRef .tc main_v7)
    | ⟨1, _⟩ => epiOut (U c (Proc.devRef .tc main_v7))
  Φ _ := Φ2 c
  q _ := fullShare
  owed _ := 0

/-! ## What the bodies find -/

theorem before0_0 (c : Dev nD) (t : Fin cfg0.N) (d) : (dat0 U c).before 0 t d = U c (Proc.devRef .tc main_v0) := by
  rw [Dat.before_fetched _ _ _ (fetch0_0 t)]
  exact blk0_0 (F := F) t _
theorem before0_1 (c : Dev nD) (t : Fin cfg0.N) (d) : (dat0 U c).before 1 t d = U c (Proc.devRef .tc main_v1) := by
  rw [Dat.before_fetched _ _ _ (fetch0_1 t)]
  exact blk0_1 (F := F) t _
theorem before0_2 (c : Dev nD) (t : Fin cfg0.N) (d) : (dat0 U c).before 2 t d = U c (Proc.devRef .tc main_v2) := by
  rw [Dat.before_fetched _ _ _ (fetch0_2 t)]
  exact blk0_2 (F := F) t _
theorem before2_0 (c : Dev nD) (t : Fin cfg2.N) (d) : (dat2 U c).before 0 t d = U c (Proc.devRef .tc main_v7) := by
  rw [Dat.before_fetched _ _ _ (fetch2_0 t)]
  exact blk2_0 (F := F) t _

theorem before1_0 (c : Dev nD) (t : Fin cfg1.N) (d) : (dat1 U c).before 0 t d = U c (Proc.devRef .tc main_arg3) := by
  rw [Dat.before_in_eq_fetched _ 0 rfl (fun _ => rfl) (fun _ _ _ => rfl) (fun t => (blk1_0 (F := F) t _).symm)]
  exact blk1_0 (F := F) t _
theorem before1_1 (c : Dev nD) (t : Fin cfg1.N) (d) : (dat1 U c).before 1 t d = U c (Proc.devRef .tc main_arg2) := by
  rw [Dat.before_in_eq_fetched _ 1 rfl (fun _ => rfl) (fun _ _ _ => rfl) (fun t => (blk1_1 (F := F) t _).symm)]
  exact blk1_1 (F := F) t _
theorem before1_2 (c : Dev nD) (t : Fin cfg1.N) (d) : (dat1 U c).before 2 t d = U c (Proc.devRef .tc main_v4) := by
  rw [Dat.before_in_eq_fetched _ 2 rfl (fun _ => rfl) (fun _ _ _ => rfl) (fun t => (blk1_2 (F := F) t _).symm)]
  exact blk1_2 (F := F) t _
theorem before1_3 (c : Dev nD) (t : Fin cfg1.N) (d) : (dat1 U c).before 3 t d = U c (Proc.devRef .tc main_v6) := by
  rw [Dat.before_in_eq_fetched _ 3 rfl (fun _ => rfl) (fun _ _ _ => rfl) (fun t => (blk1_3 (F := F) t _).symm)]
  exact blk1_3 (F := F) t _

/-- Whatever the main call's block holds when a step starts, the step leaves the accumulated block. -/
theorem step1 (c : Dev nD) (t : Fin cfg1.N) (d) :
    mainStep (grid1.coords t) (U c (Proc.devRef .tc main_arg3)) (U c (Proc.devRef .tc main_arg2)) (U c (Proc.devRef .tc main_v4)) (U c (Proc.devRef .tc main_v6))
        ((dat1 U c).before 4 t d)
      = accB (U c (Proc.devRef .tc main_arg3)) (U c (Proc.devRef .tc main_arg2)) (U c (Proc.devRef .tc main_v4)) (U c (Proc.devRef .tc main_v6)) t.val := by
  rcases Nat.eq_zero_or_pos t.val with h0 | hp
  · have hc : (grid1.coords t 1).val = 0 := by rw [coords_one, h0]
    rw [h0]
    unfold accB
    rw [show (0 : ℕ) = t.val from h0.symm, crd_of t]
    exact mainStep_zero _ hc _ _ _ _ _ _
  · obtain ⟨n, hn⟩ : ∃ n, t.val = n + 1 := ⟨t.val - 1, by omega⟩
    rw [hn]
    unfold accB
    rw [← hn, crd_of t]
    by_cases hf : (t.val - 1) % 256 = 255
    · exact mainStep_zero _ (by rw [coords_one]; omega) _ _ _ _ _ _
    · congr 1
      have hfl : (cfg1.win 4).flush ⟨t.val - 1, Nat.lt_of_le_of_lt (Nat.sub_le _ _) t.isLt⟩ = false := by
        rw [Bool.eq_false_iff]
        intro h
        exact hf ((flush1_4 _).mp h)
      rw [Dat.before_out_kept _ 4 rfl t (by omega) hfl (fun _ => rfl) (fun _ _ => rfl)]
      show accB _ _ _ _ (t.val - 1) = _
      rw [show t.val - 1 = n by omega]

/-! ## The body obligations -/

/-- A whole staging buffer owned at a block is its buffer held at contents that read as the block. -/
theorem owns_isWhole (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns
  rw [h.set_eq_univ]

theorem body0 (c : Dev nD) : BodyObligation (dat0 U c) (defs₀ (F := F)) 𝒱₀ () Set.univ := fun t => by
  rw [bigSep_W0, bigSep_W0]
  simp only [owns_whole_eq]
  rw [show (dat0 U c).Φ t.castSucc = Φ0 c from rfl, show (dat0 U c).Φ t.succ = Φ0 c from rfl,
    show (dat0 U c).owesAt () t.succ = (dat0 U c).owesAt () t.castSucc from rfl]
  iintro ⟨HΦ, Howes, ⟨%d0, %f0, %hf0, H0⟩, ⟨%d1, %f1, %hf1, H1⟩, ⟨%d2, %f2, %hf2, H2⟩, ⟨%d3, %f3, -, H3⟩, ⟨%d4, %f4, -, H4⟩⟩
  rw [before0_0] at hf0
  rw [before0_1] at hf1
  rw [before0_2] at hf2
  iapply (proRun (F := F) c (st0_0 t) (hstage0_0 0) (st0_1 t) (hstage0_1 0) (st0_2 t) (hstage0_2 0) (st0_3 t) (hstage0_3 0) (st0_4 t) (hstage0_4 0)
    f0 f1 f2 f3 f4 Set.univ _)
  isplitl [H0]; · iexact H0
  isplitl [H1]; · iexact H1
  isplitl [H2]; · iexact H2
  isplitl [H3]; · iexact H3
  isplitl [H4]; · iexact H4
  iintro ⟨H0, H1, H2, ⟨%g3, %hg3, H3⟩, ⟨%g4, %hg4, H4⟩⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists g3; isplitr; swap; (· iexact H3); ipureintro; exact hg3.trans (by rw [hf0, hf2]; rfl)
  iexists g4; isplitr; swap; (· iexact H4); ipureintro; exact hg4.trans (by rw [hf1]; rfl)

theorem body2 (c : Dev nD) : BodyObligation (dat2 U c) (defs₀ (F := F)) 𝒱₀ () Set.univ := fun t => by
  rw [bigSep_W2, bigSep_W2]
  simp only [owns_whole_eq]
  rw [show (dat2 U c).Φ t.castSucc = Φ2 c from rfl, show (dat2 U c).Φ t.succ = Φ2 c from rfl,
    show (dat2 U c).owesAt () t.succ = (dat2 U c).owesAt () t.castSucc from rfl]
  iintro ⟨HΦ, Howes, ⟨%d0, %f0, %hf0, H0⟩, ⟨%d1, %f1, -, H1⟩⟩
  rw [before2_0] at hf0
  iapply (epiRun (F := F) c (st2_0 t) (hstage2_0 0) (st2_1 t) (hstage2_1 0) f0 f1 Set.univ _)
  isplitl [H0]; · iexact H0
  isplitl [H1]; · iexact H1
  iintro ⟨H0, ⟨%g1, %hg1, H1⟩⟩
  isplitl [HΦ]; · iexact HΦ
  isplitl [Howes]; · iexact Howes
  isplitl [H0]; · iexists f0; isplitr; swap; (· iexact H0); ipureintro; exact hf0
  iexists g1; isplitr; swap; (· iexact H1); ipureintro; exact hg1.trans (by rw [hf0]; rfl)

/-- Every onset of a table passes the kernel's bounds checks. -/
def InRange (X : S4096.Idx → Elt F .i32) : Prop := ∀ i, k1_chk1 (X i)

theorem body1 (hR : ∀ c, InRange (F := F) (U c (Proc.devRef .tc main_arg3))) (c : Dev nD) : BodyObligation (dat1 U c) (defs₀ (F := F)) 𝒱₀ () Set.univ := fun t => by
  rw [bigSep_W1, bigSep_W1]
  simp only [owns_isWhole c (st1_0 t) (hstage1_0 ((cfg1.slots t 0).cast nbuf1_0)), owns_isWhole c (st1_1 t) (hstage1_1 ((cfg1.slots t 1).cast nbuf1_1)),
    owns_isWhole c (st1_2 t) (hstage1_2 ((cfg1.slots t 2).cast nbuf1_2)), owns_isWhole c (st1_3 t) (hstage1_3 ((cfg1.slots t 3).cast nbuf1_3)),
    owns_isWhole c (st1_4 t) (hstage1_4 ((cfg1.slots t 4).cast nbuf1_4))]
  rw [show (dat1 U c).Φ t.castSucc = Φ1 c from rfl, show (dat1 U c).Φ t.succ = Φ1 c from rfl,
    show (dat1 U c).owesAt () t.succ = (dat1 U c).owesAt () t.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩⟩
  rw [before1_0] at hf0
  rw [before1_1] at hf1
  rw [before1_2] at hf2
  rw [before1_3] at hf3
  iapply (mainRun (F := F) c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) (st1_4 t) (hstage1_4 ((cfg1.slots t 4).cast nbuf1_4))
    f0 f1 f2 f3 f4 Set.univ _ (fun r h => by rw [hf0]; exact hR c _))
  isplitl [H0]; · iexact H0
  isplitl [H1]; · iexact H1
  isplitl [H2]; · iexact H2
  isplitl [H3]; · iexact H3
  isplitl [H4]; · iexact H4
  iintro ⟨H0, H1, H2, H3, ⟨%g4, %hg4, H4⟩⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  iexists g4; isplitr; swap; (· iexact H4); ipureintro
  rw [hf0, hf1, hf2, hf3, hf4] at hg4
  exact hg4.trans (step1 U c t d4)

end Cert.KernelIdeal.Hand
end
-- ==== Proof.Ideal.Run.lean ====
/- The whole program's run: what every buffer outside the calls holds after each of its six items, and that every execution ends with them. -/
module

public import proofs.«01_k».proof.Proof.Ideal.Regions

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg)

variable {F : FTy → Type} [FloatOps F] [Named F]

local notation "𝕄" => MT nD τ sig Unit (Elt F) ℕ UU ℕ

variable (m : (ℓ : Loc nD τ sig) → Buf (Elt F) ℓ)

/-! ## The buffers after each item -/

def U1 (c : Dev nD) : Valuation τ sig (Elt F) := StableHlo.after hostOps0 (V0 m c)
def U2 (c : Dev nD) : Valuation τ sig (Elt F) := Pipeline.afterRegion (dat0 (U1 m) c) (U1 m c)
def U3 (c : Dev nD) : Valuation τ sig (Elt F) := StableHlo.after hostOps1 (U2 m c)
def U4 (c : Dev nD) : Valuation τ sig (Elt F) := Pipeline.afterRegion (dat1 (U3 m) c) (U3 m c)
def U5 (c : Dev nD) : Valuation τ sig (Elt F) := Pipeline.afterRegion (dat2 (U4 m) c) (U4 m c)
def U6 (c : Dev nD) : Valuation τ sig (Elt F) := StableHlo.after hostOps3 (U5 m c)

/-- The proof data of the three calls. -/
def pdats : (p : Fin 3) → (c : Dev nD) → Dat τ (Elt F) Unit ℕ UU ℕ (cfgs p) c
  | ⟨0, _⟩ => dat0 (U1 m)
  | ⟨1, _⟩ => dat1 (U3 m)
  | ⟨2, _⟩ => dat2 (U4 m)

/-- Every TensorCore cell has one level; nobody owes anything. -/
def L : GSem nD τ sig → Finset Unit := fun g => if g.1.2 = .tc then {()} else ∅
abbrev lv : GSem nD τ sig → Unit → ℕ := fun _ _ => 0
abbrev D0 : Dev nD → CellTallies nD τ sig Unit := fun _ => 0

theorem cut (p : Fin 3) : Pipeline.LevelCut (pcfgs (F := F)) adm () L lv p D0 (fun _ => 0) where
  hι c w s := by unfold L; rw [if_pos rfl]; exact Finset.mem_singleton_self _
  hιb _ _ _ := Nat.le_refl _
  hD c g i h := absurd h (by simp [D0])

/-- What rides beside the buffers: the core owes nothing. -/
abbrev Rd (c : Dev nD) : sProp 𝕄 := iprop((∃ W, owes (c : Thread nD τ) (D0 c) W) ∗ emp ∗ emp)

/-! ## The items -/

def hseg0 : HostSeg (Ix := Unit) (Name := ℕ) (U := UU) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Rd
def hseg2 : HostSeg (Ix := Unit) (Name := ℕ) (U := UU) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) Rd
def hseg5 : HostSeg (Ix := Unit) (Name := ℕ) (U := UU) (Lvl := ℕ) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (U5 m) Rd

set_option backward.isDefEq.respectTransparency.types false in
def reg0 : RegionSeg (pcfgs (F := F)) adm (pdats m) () defs₀ 𝒱₀ L lv 0 :=
  RegionSeg.ofHeldIn (pcfgs (F := F)) adm (pdats m) () defs₀ 𝒱₀ L lv 0 D0 (Pipeline.ucRefs τ sig) (fun _ => iprop(emp)) (fun _ => iprop(emp)) launch0.toP rfl
    (fun c => (body0 (U1 m) c).loose) (fun _ _ => rfl) (fun _ => rfl) (fun c => (pdats m 0 c).share_full fun _ => rfl)
    (fun c => by
      rw [show (pdats m 0 c).Φ 0 = Φ0 c from rfl]
      iintro ⟨H, -⟩; iexact H)
    (fun c => by
      rw [show (pdats m 0 c).Φ (Fin.last _) = Φ0 c from rfl]
      iintro H
      isplitl [H]; · iexact H
      iempintro)
    (fun _ => 0) (cut 0) (fun _ => iprop(emp)) (U1 m) (fun _ _ => rfl)

set_option backward.isDefEq.respectTransparency.types false in
def reg1 (hR : ∀ c, InRange (F := F) (U3 m c (Proc.devRef .tc main_arg3))) : RegionSeg (pcfgs (F := F)) adm (pdats m) () defs₀ 𝒱₀ L lv 1 :=
  RegionSeg.ofHeldIn (pcfgs (F := F)) adm (pdats m) () defs₀ 𝒱₀ L lv 1 D0 (Pipeline.ucRefs τ sig) (fun _ => iprop(emp)) (fun _ => iprop(emp)) launch1.toP rfl
    (fun c => (body1 (U3 m) hR c).loose) (fun _ _ => rfl) (fun _ => rfl) (fun c => (pdats m 1 c).share_full fun _ => rfl)
    (fun c => by
      rw [show (pdats m 1 c).Φ 0 = Φ1 c from rfl]
      iintro ⟨H, -⟩; iexact H)
    (fun c => by
      rw [show (pdats m 1 c).Φ (Fin.last _) = Φ1 c from rfl]
      iintro H
      isplitl [H]; · iexact H
      iempintro)
    (fun _ => 0) (cut 1) (fun _ => iprop(emp)) (U3 m) (fun _ _ => rfl)

set_option backward.isDefEq.respectTransparency.types false in
def reg2 : RegionSeg (pcfgs (F := F)) adm (pdats m) () defs₀ 𝒱₀ L lv 2 :=
  RegionSeg.ofHeldIn (pcfgs (F := F)) adm (pdats m) () defs₀ 𝒱₀ L lv 2 D0 (Pipeline.ucRefs τ sig) (fun _ => iprop(emp)) (fun _ => iprop(emp)) launch2.toP rfl
    (fun c => (body2 (U4 m) c).loose) (fun _ _ => rfl) (fun _ => rfl) (fun c => (pdats m 2 c).share_full fun _ => rfl)
    (fun c => by
      rw [show (pdats m 2 c).Φ 0 = Φ2 c from rfl]
      iintro ⟨H, -⟩; iexact H)
    (fun c => by
      rw [show (pdats m 2 c).Φ (Fin.last _) = Φ2 c from rfl]
      iintro H
      isplitl [H]; · iexact H
      iempintro)
    (fun _ => 0) (cut 2) (fun _ => iprop(emp)) (U4 m) (fun _ _ => rfl)

/-- The program's items. -/
abbrev items (hR : ∀ c, InRange (F := F) (U3 m c (Proc.devRef .tc main_arg3))) (_ : Dev nD) : List (Seg (pcfgs (F := F)) adm (pdats m) () defs₀ 𝒱₀ L lv) :=
  [.host (hseg0 m), .region (reg0 m), .host (hseg2 m), .region (reg1 m hR), .region (reg2 m), .host (hseg5 m)]

theorem arrs0 : Pipeline.arrRefs (τ := τ) (pcfgs (F := F) 0).spec ⊆ Pipeline.ucRefs τ sig :=
  Pipeline.arrRefs_sub_ucRefs _ (by intro w; change Fin 5 at w; fin_cases w <;> rfl)
theorem arrs1 : Pipeline.arrRefs (τ := τ) (pcfgs (F := F) 1).spec ⊆ Pipeline.ucRefs τ sig :=
  Pipeline.arrRefs_sub_ucRefs _ (by intro w; change Fin 5 at w; fin_cases w <;> rfl)
theorem arrs2 : Pipeline.arrRefs (τ := τ) (pcfgs (F := F) 2).spec ⊆ Pipeline.ucRefs τ sig :=
  Pipeline.arrRefs_sub_ucRefs _ (by intro w; change Fin 2 at w; fin_cases w <;> rfl)

/-- Every buffer outside the calls held at a valuation, and what rides beside. -/
abbrev Th (V : Dev nD → Valuation τ sig (Elt F)) (c : Dev nD) : sProp 𝕄 :=
  iprop(StableHlo.held (c : Thread nD τ) (Pipeline.ucRefs τ sig) (V c) ∗ Rd c)

theorem pre0 (c : Dev nD) : Th (U1 m) c ⊢ (reg0 m).pre c := by
  unfold reg0
  exact RegionSeg.ofHeldIn_pre (D := D0) (X := fun _ => iprop(emp)) (R := fun _ => iprop(emp)) (W := U1 m) arrs0 c
theorem post0 (c : Dev nD) : (reg0 m).post c ⊢ Th (U2 m) c := RegionSeg.ofHeldIn_post arrs0 c
theorem pre1 (hR) (c : Dev nD) : Th (U3 m) c ⊢ (reg1 m hR).pre c := by
  unfold reg1
  exact RegionSeg.ofHeldIn_pre (D := D0) (X := fun _ => iprop(emp)) (R := fun _ => iprop(emp)) (W := U3 m) arrs1 c
theorem post1 (hR) (c : Dev nD) : (reg1 m hR).post c ⊢ Th (U4 m) c := RegionSeg.ofHeldIn_post arrs1 c
theorem pre2 (c : Dev nD) : Th (U4 m) c ⊢ (reg2 m).pre c := by
  unfold reg2
  exact RegionSeg.ofHeldIn_pre (D := D0) (X := fun _ => iprop(emp)) (R := fun _ => iprop(emp)) (W := U4 m) arrs2 c
theorem post2 (c : Dev nD) : (reg2 m).post c ⊢ Th (U5 m) c := RegionSeg.ofHeldIn_post arrs2 c

theorem last (c : Dev nD) : Th (U6 m) c ⊢ iprop(StableHlo.held (c : Thread nD τ) (Pipeline.ucRefs τ sig) (U6 m c)
    ∗ ∃ W, owes (c : Thread nD τ) (0 : CellTallies nD τ sig Unit) W) := by
  iintro ⟨Hh, HO, -⟩
  isplitl [Hh] <;> iassumption

set_option backward.isDefEq.respectTransparency.types false in
/-- Every execution ends, with every buffer outside the calls as computed item by item and every counter at zero. -/
theorem run_all (ρ : Dev nD → PrngReg) (hR : ∀ c, InRange (F := F) (U3 m c (Proc.devRef .tc main_arg3))) :
    θ_run defs (onTc (τ := τ) (main (F := F))) ⟨m, fun _ => 0, ρ⟩ (fun r =>
      (∀ c : Dev nD, ∀ b ∈ Pipeline.ucRefs τ sig, r.2.mem ((c.tc : Thread nD τ).1, b) = U6 m c b) ∧ r.2.sem = fun _ => 0) := by
  refine Pipeline.θ_run_regions_kit_dev_sems (pcfgs (F := F)) adm (pdats m) () cellOf_inj emb₁ defs₀ 𝒱₀ L lv m ρ main
    (items m hR)
    (fun c Q => by
      rewrite [main_chain c, Seg.run_eq_chain,
        show (items m hR c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide)
    (O₀ := 0) (hL := fun g hg => if_neg hg)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rd c))
    (Tₙ := fun c => StableHlo.held (c : Thread nD τ) (Pipeline.ucRefs τ sig) (U6 m c))
    (hch := fun c => ⟨.rfl, pre0 m c, post0 m c, pre1 m hR c, (post1 m hR c).trans (pre2 m c), post2 m c, last m c⟩)
    (hinit := ?_)
    (QY := fun c s => ∀ b ∈ Pipeline.ucRefs τ sig, s.mem ((c.tc : Thread nD τ).1, b) = U6 m c b)
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UU) (Lvl := ℕ) c (V0 m c)]
    iintro ⟨⟨Hh, -, HO, -⟩, -⟩
    imodintro
    isplitl [Hh]; · iexact Hh
    isplitl [HO]; · iexists _; iexact HO
    isplitr <;> iempintro
  · unfold StableHlo.held
    iintro ⟨Hh, HSI⟩
    ihave Hr := (pointsTo_read_all (Pipeline.ucRefs τ sig) (fun b => ((c.tc : Thread nD τ).1, b)) (U6 m c) s') $$ [Hh HSI]
    · isplitl [Hh] <;> iassumption
    imodintro; iexact Hr

end Cert.KernelIdeal.Hand
end
-- ==== Proof.Ideal.Values.lean ====
/- What the run leaves in the result and the arguments, in terms of the arguments it started from. -/
module

public import proofs.«01_k».proof.Proof.Ideal.Run
public import Idealize.ShloMosaic.Lib.StableHlo.Run

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.Sem
open Idealize.ShloMosaic.Pipeline (Dat Cfg Window)

variable {F : FTy → Type} [FloatOps F] [Named F]
variable (m : (ℓ : Loc nD τ sig) → Buf (Elt F) ℓ)

/-! ## What a call leaves in its results -/

theorem emb0_3 (t : Fin cfg0.N) (y : S32x128.Idx) : ((cfg0.win 3).blk t).view.emb y = y :=
  funext fun a => Fin.ext (win0_3.rect_emb_val_of_index_zero t a (by fin_cases a <;> rfl) y)
theorem emb0_4 (t : Fin cfg0.N) (y : S1x128.Idx) : ((cfg0.win 4).blk t).view.emb y = y :=
  funext fun a => Fin.ext (win0_4.rect_emb_val_of_index_zero t a (by fin_cases a <;> rfl) y)
theorem emb2_1 (t : Fin cfg2.N) (y : S4096x128.Idx) : ((cfg2.win 1).blk t).view.emb y = y :=
  funext fun a => Fin.ext (win2_1.rect_emb_val_of_index_zero t a (by fin_cases a <;> rfl) y)

variable (U : Dev nD → Valuation τ sig (Elt F))

theorem out0_3 (c : Dev nD) : (dat0 U c).arrAt 3 cfg0.N = proScale (U c (Proc.devRef .tc main_v0)) (U c (Proc.devRef .tc main_v2)) :=
  (dat0 U c).arrAt_eq_of_cover 3 _ (fun t _ => (blk0_3 (F := F) t _).symm)
    (fun i => ⟨t0_0, flush0_3 _, (emb0_3 t0_0 i) ▸ ((cfg0.win 3).blk t0_0).view.emb_mem_set i⟩)
theorem out0_4 (c : Dev nD) : (dat0 U c).arrAt 4 cfg0.N = proMisc (U c (Proc.devRef .tc main_v1)) :=
  (dat0 U c).arrAt_eq_of_cover 4 _ (fun t _ => (blk0_4 (F := F) t _).symm)
    (fun i => ⟨t0_0, flush0_4 _, (emb0_4 t0_0 i) ▸ ((cfg0.win 4).blk t0_0).view.emb_mem_set i⟩)
theorem out2_1 (c : Dev nD) : (dat2 U c).arrAt 1 cfg2.N = epiOut (U c (Proc.devRef .tc main_v7)) :=
  (dat2 U c).arrAt_eq_of_cover 1 _ (fun t _ => (blk2_1 (F := F) t _).symm)
    (fun i => ⟨t2_0, flush2_1 _, (emb2_1 t2_0 i) ▸ ((cfg2.win 1).blk t2_0).view.emb_mem_set i⟩)

/-- The place of an element in its half's block. -/
def blkIx (i : S2x4096x128.Idx) : S1x4096x128.Idx := fun a => match a with
  | 0 => (0 : Fin 1)
  | 1 => i 1
  | 2 => i 2

/-- The partial sums, from the four tables: half `i 0`'s block after its last step. -/
def partials (X2 : S4096.Idx → Elt F .i32) (X3 X4 : S4096.Idx → Elt F .f32) (X5 : S2.Idx → Elt F .f32) : S2x4096x128.Idx → Elt F .f32 :=
  fun i => accB X2 X3 X4 X5 (256 * (i 0).val + 255) (blkIx i)

theorem index1_4 : ∀ t : Fin grid1.N, win1_4.index t 0 = t.val / 256 ∧ win1_4.index t 1 = 0 ∧ win1_4.index t 2 = 0 := by decide +kernel

theorem emb1_4 (t : Fin cfg1.N) (y : S1x4096x128.Idx) :
    ((((cfg1.win 4).blk t).view.emb y : S2x4096x128.Idx) 0).val = t.val / 256
    ∧ (((cfg1.win 4).blk t).view.emb y : S2x4096x128.Idx) 1 = y 1 ∧ (((cfg1.win 4).blk t).view.emb y : S2x4096x128.Idx) 2 = y 2 := by
  obtain ⟨h0, h1, h2⟩ := index1_4 t
  refine ⟨?_, ?_, ?_⟩
  · have h := win1_4.rect_emb_val t y 0
    rw [h0] at h
    have hy : (y 0).val = 0 := by have := (y 0).isLt; change _ < 1 at this; omega
    refine h.trans ?_
    show t.val / 256 * 1 + (y 0).val = _
    omega
  · exact Fin.ext (win1_4.rect_emb_val_of_index_zero t 1 h1 y)
  · exact Fin.ext (win1_4.rect_emb_val_of_index_zero t 2 h2 y)

theorem out1_4 (c : Dev nD) : (dat1 U c).arrAt 4 cfg1.N
    = partials (U c (Proc.devRef .tc main_arg3)) (U c (Proc.devRef .tc main_arg2)) (U c (Proc.devRef .tc main_v4)) (U c (Proc.devRef .tc main_v6)) := by
  refine (dat1 U c).arrAt_eq_of_cover 4 _ (fun t hf => ?_) (fun i => ?_)
  · have ht := (flush1_4 t).mp hf
    funext y
    obtain ⟨h0, h1, h2⟩ := emb1_4 t y
    show accB _ _ _ _ t.val y = partials _ _ _ _ (((cfg1.win 4).blk t).view.emb y : S2x4096x128.Idx)
    unfold partials
    rw [h0, show 256 * (t.val / 256) + 255 = t.val by omega]
    congr 1
    funext a
    fin_cases a
    · exact Fin.ext (by have := (y 0).isLt; change _ < 1 at this; show (y 0).val = 0; omega)
    · exact h1.symm
    · exact h2.symm
  · have hi : (i 0).val < 2 := (i 0).isLt
    have hN : 256 * (i 0).val + 255 < cfg1.N := lt_of_lt_of_eq (by omega) N_1.symm
    refine ⟨⟨256 * (i 0).val + 255, hN⟩, (flush1_4 _).mpr (by show (256 * (i 0).val + 255) % 256 = 255; omega), ?_⟩
    have e : ((cfg1.win 4).blk ⟨256 * (i 0).val + 255, hN⟩).view.emb (blkIx i) = i := by
      obtain ⟨h0, h1, h2⟩ := emb1_4 ⟨256 * (i 0).val + 255, hN⟩ (blkIx i)
      funext a
      fin_cases a
      · refine Fin.ext (h0.trans ?_)
        show (256 * (i 0).val + 255) / 256 = (i 0).val
        omega
      · exact h1
      · exact h2
    have h := ((cfg1.win 4).blk ⟨256 * (i 0).val + 255, hN⟩).view.emb_mem_set (blkIx i)
    rw [e] at h
    exact h

/-! ## The buffers after each item -/

theorem U1_of (c : Dev nD) (r : Ref sig .tc) (h : r ∉ hostOps0_W) : U1 m c (Proc.devRef .tc r) = m ((c : Thread nD τ).loc r) :=
  StableHlo.after_of_writes_sub hostOps0 _ hostOps0_writes h
theorem U2_of (c : Dev nD) (r : Ref sig .tc) (h : ∀ w, r ≠ Pipeline.arrRef spec0 w) : U2 m c (Proc.devRef .tc r) = U1 m c (Proc.devRef .tc r) :=
  Pipeline.afterRegion_of_not_arr _ _ h
theorem U3_of (c : Dev nD) (r : Ref sig .tc) (h : r ∉ hostOps1_W) : U3 m c (Proc.devRef .tc r) = U2 m c (Proc.devRef .tc r) :=
  StableHlo.after_of_writes_sub hostOps1 _ hostOps1_writes h
theorem U4_of (c : Dev nD) (r : Ref sig .tc) (h : ∀ w, r ≠ Pipeline.arrRef spec1 w) : U4 m c (Proc.devRef .tc r) = U3 m c (Proc.devRef .tc r) :=
  Pipeline.afterRegion_of_not_arr _ _ h
theorem U5_of (c : Dev nD) (r : Ref sig .tc) (h : ∀ w, r ≠ Pipeline.arrRef spec2 w) : U5 m c (Proc.devRef .tc r) = U4 m c (Proc.devRef .tc r) :=
  Pipeline.afterRegion_of_not_arr _ _ h
theorem U6_of (c : Dev nD) (r : Ref sig .tc) (h : r ∉ hostOps3_W) : U6 m c (Proc.devRef .tc r) = U5 m c (Proc.devRef .tc r) :=
  StableHlo.after_of_writes_sub hostOps3 _ hostOps3_writes h

theorem U3_arg (c : Dev nD) (r : Ref sig .tc) (h0 : r ∉ hostOps0_W) (h1 : ∀ w, r ≠ Pipeline.arrRef spec0 w) (h2 : r ∉ hostOps1_W) :
    U3 m c (Proc.devRef .tc r) = m ((c : Thread nD τ).loc r) :=
  (U3_of m c r h2).trans <| (U2_of m c r h1).trans (U1_of m c r h0)

theorem U4_in (c : Dev nD) (w : Fin 5) (hw : (cfg1.win w).isOut = false) :
    U4 m c (Proc.devRef .tc (Pipeline.arrRef spec1 w)) = U3 m c (Proc.devRef .tc (Pipeline.arrRef spec1 w)) :=
  (Pipeline.afterRegion_arr (dat1 (U3 m) c) (U3 m c) launch1.win.arr_inj w).trans ((dat1 (U3 m) c).arrAt_in w hw _)

theorem U6_arg0 (c : Dev nD) : U6 m c (Proc.devRef .tc main_arg0) = m ((c : Thread nD τ).loc main_arg0) :=
  (U6_of m c _ (by decide)).trans <| (U5_of m c _ (by decide)).trans <| (U4_of m c _ (by decide)).trans (U3_arg m c _ (by decide) (by decide) (by decide))
theorem U6_arg1 (c : Dev nD) : U6 m c (Proc.devRef .tc main_arg1) = m ((c : Thread nD τ).loc main_arg1) :=
  (U6_of m c _ (by decide)).trans <| (U5_of m c _ (by decide)).trans <| (U4_of m c _ (by decide)).trans (U3_arg m c _ (by decide) (by decide) (by decide))
theorem U6_arg2 (c : Dev nD) : U6 m c (Proc.devRef .tc main_arg2) = m ((c : Thread nD τ).loc main_arg2) :=
  (U6_of m c _ (by decide)).trans <| (U5_of m c _ (by decide)).trans <| (U4_in m c 1 rfl).trans (U3_arg m c _ (by decide) (by decide) (by decide))
theorem U6_arg3 (c : Dev nD) : U6 m c (Proc.devRef .tc main_arg3) = m ((c : Thread nD τ).loc main_arg3) :=
  (U6_of m c _ (by decide)).trans <| (U5_of m c _ (by decide)).trans <| (U4_in m c 0 rfl).trans (U3_arg m c _ (by decide) (by decide) (by decide))

theorem U1_v0 (c : Dev nD) : U1 m c (Proc.devRef .tc main_v0) = shapeCast S1x1 (m ((c : Thread nD τ).loc main_arg0)) shapeCasts_S_S1x1 := by
  unfold U1 hostOps0 V0
  after_results
  rfl
theorem U1_v1 (c : Dev nD) : U1 m c (Proc.devRef .tc main_v1) = shapeCast S1x1 (m ((c : Thread nD τ).loc main_arg1)) shapeCasts_S_S1x1 := by
  unfold U1 hostOps0 V0
  after_results
  rfl
theorem U1_v2 (c : Dev nD) : U1 m c (Proc.devRef .tc main_v2) = shapeCast S32x128 (m ((c : Thread nD τ).loc main_arg2)) shapeCasts_S4096_S32x128 := by
  unfold U1 hostOps0 V0
  after_results
  rfl

theorem U2_v3_0 (c : Dev nD) : U2 m c (Proc.devRef .tc main_v3_0)
    = proScale (U1 m c (Proc.devRef .tc main_v0)) (U1 m c (Proc.devRef .tc main_v2)) :=
  (Pipeline.afterRegion_arr (dat0 (U1 m) c) (U1 m c) launch0.win.arr_inj 3).trans (out0_3 (U1 m) c)
theorem U2_v3_1 (c : Dev nD) : U2 m c (Proc.devRef .tc main_v3_1) = proMisc (U1 m c (Proc.devRef .tc main_v1)) :=
  (Pipeline.afterRegion_arr (dat0 (U1 m) c) (U1 m c) launch0.win.arr_inj 4).trans (out0_4 (U1 m) c)

theorem U3_v4 (c : Dev nD) : U3 m c (Proc.devRef .tc main_v4) = shapeCast S4096 (U2 m c (Proc.devRef .tc main_v3_0)) shapeCasts_S32x128_S4096 := by
  unfold U3 hostOps1
  after_results
  rfl
theorem U3_v6 (c : Dev nD) : U3 m c (Proc.devRef .tc main_v6)
    = shapeCast S2 (extractStridedSlice S1x2 ![0, 0] (U2 m c (Proc.devRef .tc main_v3_1)) slices_S1x128_S1x2_0_0) shapeCasts_S1x2_S2 := by
  unfold U3 hostOps1
  after_results
  rfl
theorem U4_v7 (c : Dev nD) : U4 m c (Proc.devRef .tc main_v7)
    = partials (U3 m c (Proc.devRef .tc main_arg3)) (U3 m c (Proc.devRef .tc main_arg2)) (U3 m c (Proc.devRef .tc main_v4)) (U3 m c (Proc.devRef .tc main_v6)) :=
  (Pipeline.afterRegion_arr (dat1 (U3 m) c) (U3 m c) launch1.win.arr_inj 4).trans (out1_4 (U3 m) c)
theorem U5_v8 (c : Dev nD) : U5 m c (Proc.devRef .tc main_v8) = epiOut (U4 m c (Proc.devRef .tc main_v7)) :=
  (Pipeline.afterRegion_arr (dat2 (U4 m) c) (U4 m c) launch2.win.arr_inj 1).trans (out2_1 (U4 m) c)
theorem U6_v9 (c : Dev nD) : U6 m c (Proc.devRef .tc main_v9) = shapeCast S524288 (U5 m c (Proc.devRef .tc main_v8)) shapeCasts_S4096x128_S524288 := by
  unfold U6 hostOps3
  after_results
  rfl

/-! ## The result -/

/-- The slope table's two used entries. -/
def miscOf (ts : S_.Idx → Elt F .f32) : S2.Idx → Elt F .f32 :=
  shapeCast S2 (extractStridedSlice S1x2 ![0, 0] (proMisc (shapeCast S1x1 ts shapeCasts_S_S1x1)) slices_S1x128_S1x2_0_0) shapeCasts_S1x2_S2
/-- The scale table. -/
def scaleOf (td : S_.Idx → Elt F .f32) (f0 : S4096.Idx → Elt F .f32) : S4096.Idx → Elt F .f32 :=
  shapeCast S4096 (proScale (shapeCast S1x1 td shapeCasts_S_S1x1) (shapeCast S32x128 f0 shapeCasts_S4096_S32x128)) shapeCasts_S32x128_S4096
/-- The result as a function of the four arguments. -/
def resultOf (td ts : S_.Idx → Elt F .f32) (f0 : S4096.Idx → Elt F .f32) (o : S4096.Idx → Elt F .i32) : S524288.Idx → Elt F .f32 :=
  shapeCast S524288 (epiOut (partials o f0 (scaleOf td f0) (miscOf ts))) shapeCasts_S4096x128_S524288

theorem U6_result (c : Dev nD) : U6 m c (Proc.devRef .tc main_v9)
    = resultOf (m ((c : Thread nD τ).loc main_arg0)) (m ((c : Thread nD τ).loc main_arg1)) (m ((c : Thread nD τ).loc main_arg2)) (m ((c : Thread nD τ).loc main_arg3)) := by
  rw [U6_v9, U5_v8, U4_v7, U3_v4, U3_v6, U2_v3_0, U2_v3_1, U1_v0, U1_v1, U1_v2,
    U3_arg m c main_arg3 (by decide) (by decide) (by decide), U3_arg m c main_arg2 (by decide) (by decide) (by decide)]
  rfl

/-- Every execution ends with the result a function of the arguments, the arguments unchanged and every counter at zero. -/
theorem run (ρ : Dev nD → PrngReg) (hR : ∀ c : Dev nD, InRange (F := F) (m ((c : Thread nD τ).loc main_arg3))) :
    θ_run defs (onTc (τ := τ) (main (F := F))) ⟨m, fun _ => 0, ρ⟩ (fun r => (∀ c : Dev nD,
      r.2.mem ((c.tc : Thread nD τ).loc main_v9) = resultOf (m ((c : Thread nD τ).loc main_arg0)) (m ((c : Thread nD τ).loc main_arg1))
          (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have hR' : ∀ c, InRange (F := F) (U3 m c (Proc.devRef .tc main_arg3)) := fun c => by
    rw [U3_arg m c main_arg3 (by decide) (by decide) (by decide)]; exact hR c
  refine (θ_run defs _ _).mono (fun r h => ⟨fun c => ?_, h.2⟩) (run_all m ρ hR')
  have hb (b : Ref sig .tc) (hs : b.isScoped = false) : r.2.mem ((c.tc : Thread nD τ).loc b) = U6 m c (Proc.devRef .tc b) :=
    h.1 c _ (Pipeline.devRef_mem_ucRefs hs)
  exact ⟨(hb main_v9 rfl).trans (U6_result m c), (hb main_arg0 rfl).trans (U6_arg0 m c), (hb main_arg1 rfl).trans (U6_arg1 m c),
    (hb main_arg2 rfl).trans (U6_arg2 m c), (hb main_arg3 rfl).trans (U6_arg3 m c)⟩

end Cert.KernelIdeal.Hand
end
-- ==== Proof.Ideal.Range.lean ====
/- Onsets below 507904 keep the window inside the block. -/
module

public import proofs.«01_k».proof.Proof.Ideal.Values
public import proofs.«01_k».proof.Proof.Gen.Pre_onsets_in_range

@[expose] public section

noncomputable section

namespace Cert.KernelIdeal.Hand

open Cert.KernelIdeal Cert.KernelIdeal.Gen
open Idealize.ShloMosaic

/-- The quotient of a word in range by a power of two is the quotient of the numbers. -/
theorem divsi_toNat (o k : BitVec 32) (h : o.toNat < 2 ^ 31) (hk : k.toNat < 2 ^ 31) (hk0 : 0 < k.toNat) :
    (Scalar.divsi o k).toNat = o.toNat / k.toNat := by
  have hc : ¬ IntOp.SDivCorner o k := by
    unfold IntOp.SDivCorner
    rintro (h' | h')
    · rw [h'] at hk0; simp at hk0
    · rw [h'.2] at hk; simp at hk
  have ho : o.msb = false := by rw [BitVec.msb_eq_false_iff_two_mul_lt]; omega
  have hk' : k.msb = false := by rw [BitVec.msb_eq_false_iff_two_mul_lt]; omega
  show (IntOp.divsi .scalar o k).toNat = _
  unfold IntOp.divsi
  rw [if_neg hc, BitVec.sdiv_eq, ho, hk']
  simp

theorem mult_toNat (o : BitVec 32) (h : o.toNat < 507904) : (k1_mult1 o).toNat = 8 * (o.toNat / 1024) := by
  unfold k1_mult1
  show (Scalar.divsi o 1024#32 * 8#32).toNat = _
  rw [BitVec.toNat_mul, divsi_toNat o 1024#32 (by omega) (by decide) (by decide)]
  simp only [BitVec.toNat_ofNat, Nat.reducePow, Nat.reduceMod]
  omega

theorem off2_eq (o : BitVec 32) (h : o.toNat < 507904) : k1_off2 o = ![0, 8 * (o.toNat / 1024), 0] := by
  have := mult_toNat o h
  unfold k1_mult1 at this
  unfold k1_off2
  simp only
  congr 2

theorem chk_of_lt (o : BitVec 32) (h : o.toNat < 507904) : k1_chk1 o := by
  refine ⟨mult_toNat o h ▸ ⟨_, rfl⟩, fun a => ?_⟩
  rw [off2_eq o h]
  fin_cases a
  · show 0 + 1 ≤ 1; omega
  · show 8 * (o.toNat / 1024) + 136 ≤ 4096
    omega
  · show 0 + 128 ≤ 128; omega

theorem lt_of_mask (o : BitVec 32) (h : IntOp.andi (IntOp.cmpi .sge o 0#32) (IntOp.cmpi .slt o 507904#32) = 1#1) : o.toNat < 507904 := by
  have h1 : BitVec.ofBool ((0#32 : BitVec 32).sle o) &&& BitVec.ofBool (o.slt 507904#32) = 1#1 := h
  have hs : (0#32 : BitVec 32).sle o = true ∧ o.slt 507904#32 = true := by
    revert h1
    cases (0#32 : BitVec 32).sle o <;> cases o.slt 507904#32 <;> decide
  have a := BitVec.sle_iff_toInt_le.mp hs.1
  have b := BitVec.slt_iff_toInt_lt.mp hs.2
  have e : (507904#32 : BitVec 32).toInt = 507904 := by decide
  have e0 : (0#32 : BitVec 32).toInt = 0 := by decide
  rw [e] at b
  rw [e0] at a
  have := BitVec.toInt_eq_toNat_cond o
  split at this <;> omega

/-- The claims' condition on the onsets, read at each. -/
theorem inRange_of_pre {F : FTy → Type} [FloatOps F] [Named F] (a0 a1 : S_.Idx → F .f32) (a2 : S4096.Idx → F .f32) (o : S4096.Idx → BitVec 32)
    (h : @Cert.Pre_onsets_in_range.fn Cert.Pre_onsets_in_range.Gen.facts F _ a0 a1 a2 o = fun _ => 1#1) (i : S4096.Idx) : (o i).toNat < 507904 :=
  lt_of_mask (o i) (congrFun h i)

theorem inRange_of_lt {F : FTy → Type} [FloatOps F] [Named F] (o : S4096.Idx → BitVec 32) (h : ∀ i, (o i).toNat < 507904) : InRange (F := F) o :=
  fun i => chk_of_lt (o i) (h i)

end Cert.KernelIdeal.Hand
end
-- ==== Proof.Ref.Admissible.lean ====
module

public import proofs.«01_k».proof.Pre_admissible
public import proofs.«01_k».proof.Proof.Gen.ReferenceIdeal

/-! The side conditions of the precondition's operations: those of the reference, which it evaluates. -/

@[expose] public section

namespace Cert.Pre_admissible.Hand

open Idealize.ShloMosaic

instance facts : Cert.Pre_admissible.Facts where
  bcast_S_S4096 := Cert.ReferenceIdeal.Gen.bcast_S_S4096
  reducesTo_S4096_S_d0 := Cert.ReferenceIdeal.Gen.reducesTo_S4096_S_d0
  h_S_ := Cert.ReferenceIdeal.Gen.h_S_
  bcast_S_S16384 := Cert.ReferenceIdeal.Gen.bcast_S_S16384
  bcast_S4096_S4096x1_0 := Cert.ReferenceIdeal.Gen.bcast_S4096_S4096x1_0
  bcast_S_S4096x1 := Cert.ReferenceIdeal.Gen.bcast_S_S4096x1
  bcast_S16384_S1x16384_1 := Cert.ReferenceIdeal.Gen.bcast_S16384_S1x16384_1
  bcast_S4096x1_S4096x16384_0_1 := Cert.ReferenceIdeal.Gen.bcast_S4096x1_S4096x16384_0_1
  bcast_S1x16384_S4096x16384_0_1 := Cert.ReferenceIdeal.Gen.bcast_S1x16384_S4096x16384_0_1
  bcast_S_S4096x16384 := Cert.ReferenceIdeal.Gen.bcast_S_S4096x16384
  bcast_S_S524288 := Cert.ReferenceIdeal.Gen.bcast_S_S524288
  bcast_S4096x16384_S4096x16384x1_0_1 := Cert.ReferenceIdeal.Gen.bcast_S4096x16384_S4096x16384x1_0_1
  reducesTo_S524288_S_d0 := Cert.ReferenceIdeal.Gen.reducesTo_S524288_S_d0
  scatter_S524288_S4096x16384x1_S4096x16384_n_0_0_2_wf :=
    Cert.ReferenceIdeal.Gen.scatter_S524288_S4096x16384x1_S4096x16384_n_0_0_2_wf

end Cert.Pre_admissible.Hand
-- ==== Proof.Ref.Stages.lean ====
module

public import proofs.«01_k».proof.Proof.Gen.ReferenceIdeal.Run
public import proofs.«01_k».proof.Proof.Ref.Admissible
public import Idealize.ShloMosaic.Lib.Pointwise
public import Idealize.ShloMosaic.PureOps.Ideal

/-! The reference's result, and the mask of the precondition, written as a chain of named stages. -/

set_option maxRecDepth 100000

namespace Cert.ReferenceIdeal.Hand

open Idealize.ShloMosaic Idealize.ShloMosaic.TcCoe Cert.ReferenceIdeal Cert.ReferenceIdeal.Facts₀

@[expose] public section

noncomputable section

/-- `π`, as four times the arctangent of one. -/
def piV : FVec Ideal S_ .f32 := mulf (constant S_ .f32 0x40800000#32) (Host.atan (constant S_ .f32 0x3F800000#32))

/-- The centre of the sigmoid: `0.25 d + 0.75 d²`. -/
def centreV (td : FVec Ideal S_ .f32) : FVec Ideal S_ .f32 :=
  addf (mulf (constant S_ .f32 0x3E800000#32) td) (mulf (constant S_ .f32 0x3F400000#32) (mulf td td))

/-- The sigmoid's argument, by grain. -/
def argV (td : FVec Ideal S_ .f32) : FVec Ideal S4096 .f32 :=
  mulf (broadcastInDim S4096 ![] bcast_S_S4096 (mulf (subf (constant S_ .f32 0x3F800000#32) td) (constant S_ .f32 0x45800000#32)))
    (subf (Host.divf (sitofp .f32 (iotaInDim S4096 32 0)) (broadcastInDim S4096 ![] bcast_S_S4096 (constant S_ .f32 0x45800000#32)))
      (broadcastInDim S4096 ![] bcast_S_S4096 (centreV td)))

/-- The amplitudes before they are scaled to a greatest one of `1`. -/
def rawV (td : FVec Ideal S_ .f32) : FVec Ideal S4096 .f32 :=
  subf (broadcastInDim S4096 ![] bcast_S_S4096 (constant S_ .f32 0x3F800000#32))
    (Host.divf (broadcastInDim S4096 ![] bcast_S_S4096 (constant S_ .f32 0x3F800000#32))
      (addf (broadcastInDim S4096 ![] bcast_S_S4096 (constant S_ .f32 0x3F800000#32))
        (Host.exp (Host.negf (mulf (broadcastInDim S4096 ![] bcast_S_S4096 (constant S_ .f32 0x40000000#32)) (argV td))))))

/-- The greatest amplitude. -/
def topV (td : FVec Ideal S_ .f32) : FVec Ideal S_ .f32 :=
  Host.reduce FloatOps.maximumf (rawV td) (constant S_ .f32 0xFF800000#32) reducesTo_S4096_S_d0 h_S_

/-- The amplitudes. -/
def ampV (td : FVec Ideal S_ .f32) : FVec Ideal S4096 .f32 := Host.divf (rawV td) (broadcastInDim S4096 ![] bcast_S_S4096 (topV td))

/-- The slope of the chirp. -/
def slopeV (ts : FVec Ideal S_ .f32) : FVec Ideal S_ .f32 :=
  Host.divf (mulf (Host.tan (Host.divf (mulf ts piV) (constant S_ .f32 0x40000000#32))) (constant S_ .f32 0x4165B000#32))
    (constant S_ .f32 0x40800000#32)

/-- Time, centred on the grain. -/
def timeV : FVec Ideal S16384 .f32 :=
  subf (Host.divf (sitofp .f32 (iotaInDim S16384 32 0)) (broadcastInDim S16384 ![] bcast_S_S16384 (constant S_ .f32 0x472C4400#32)))
    (broadcastInDim S16384 ![] bcast_S_S16384
      (Host.divf (Host.divf (constant S_ .f32 0x46800000#32) (constant S_ .f32 0x472C4400#32)) (constant S_ .f32 0x40000000#32)))

/-- The slope, or `1` where it is zero. -/
def safeV (ts : FVec Ideal S_ .f32) : FVec Ideal S_ .f32 :=
  mulf (select (cmpf .oeq (slopeV ts) (constant S_ .f32 0x00000000#32)) (id (constant S_ .f32 0x3F800000#32)) (slopeV ts))
    (constant S_ .f32 0x3F800000#32)

/-- The phase of a chirp of frequency one, in cycles. -/
def phaseV (ts : FVec Ideal S_ .f32) : FVec Ideal S16384 .f32 :=
  select (broadcastInDim S16384 ![] bcast_S_S16384 (cmpf .oeq (slopeV ts) (constant S_ .f32 0x00000000#32))) timeV
    (Host.divf (Host.expm1 (mulf (broadcastInDim S16384 ![] bcast_S_S16384 (safeV ts)) timeV))
      (broadcastInDim S16384 ![] bcast_S_S16384 (safeV ts)))

/-- The angle of the window. -/
def windV : FVec Ideal S16384 .f32 :=
  Host.sin (Host.divf (mulf (broadcastInDim S16384 ![] bcast_S_S16384 piV) (sitofp .f32 (iotaInDim S16384 32 0)))
    (broadcastInDim S16384 ![] bcast_S_S16384 (constant S_ .f32 0x46800000#32)))

/-- The grains. -/
def grainsV (td ts : FVec Ideal S_ .f32) (f0 : FVec Ideal S4096 .f32) : FVec Ideal S4096x16384 .f32 :=
  Host.divf
    (mulf (mulf (Host.sin (mulf
            (broadcastInDim S4096x16384 ![0, 1] bcast_S4096x1_S4096x16384_0_1
              (mulf (broadcastInDim S4096x1 ![] bcast_S_S4096x1 (mulf (constant S_ .f32 0x40000000#32) piV))
                (broadcastInDim S4096x1 ![0] bcast_S4096_S4096x1_0 f0)))
            (broadcastInDim S4096x16384 ![0, 1] bcast_S1x16384_S4096x16384_0_1 (broadcastInDim S1x16384 ![1] bcast_S16384_S1x16384_1 (phaseV ts)))))
          (broadcastInDim S4096x16384 ![0, 1] bcast_S4096x1_S4096x16384_0_1 (broadcastInDim S4096x1 ![0] bcast_S4096_S4096x1_0 (ampV td))))
      (broadcastInDim S4096x16384 ![0, 1] bcast_S1x16384_S4096x16384_0_1 (broadcastInDim S1x16384 ![1] bcast_S16384_S1x16384_1 (mulf windV windV))))
    (broadcastInDim S4096x16384 ![0, 1] bcast_S4096x1_S4096x16384_0_1 (broadcastInDim S4096x1 ![0] bcast_S4096_S4096x1_0 (Host.sqrt f0)))

/-- Where a grain's samples go, before they are wrapped round. -/
def sumV (o : IVec S4096 32) : IVec S4096x16384 32 :=
  addi (broadcastInDim S4096x16384 ![0, 1] bcast_S4096x1_S4096x16384_0_1 (broadcastInDim S4096x1 ![0] bcast_S4096_S4096x1_0 o))
    (broadcastInDim S4096x16384 ![0, 1] bcast_S1x16384_S4096x16384_0_1 (broadcastInDim S1x16384 ![1] bcast_S16384_S1x16384_1 (iotaInDim S16384 32 0)))

/-- The divisor. -/
def lenV : IVec S_ 32 :=
  select (cmpi .eq (id (constantI S_ 32 524288#32)) (constantI S_ 32 0#32)) (constantI S_ 32 1#32) (id (constantI S_ 32 524288#32))

/-- The truncated remainder. -/
def remV (o : IVec S4096 32) : IVec S4096x16384 32 :=
  Host.remsi (sumV o) (broadcastInDim S4096x16384 ![] bcast_S_S4096x16384 lenV)

/-- The remainder of the floor. -/
def modV (o : IVec S4096 32) : IVec S4096x16384 32 :=
  select
    (andi
      (cmpi .ne (cmpi .slt (remV o) (broadcastInDim S4096x16384 ![] bcast_S_S4096x16384 (constantI S_ 32 0#32)))
        (broadcastInDim S4096x16384 ![] bcast_S_S4096x16384 (cmpi .slt lenV (constantI S_ 32 0#32))))
      (cmpi .ne (remV o) (broadcastInDim S4096x16384 ![] bcast_S_S4096x16384 (constantI S_ 32 0#32))))
    (addi (remV o) (broadcastInDim S4096x16384 ![] bcast_S_S4096x16384 lenV)) (remV o)

/-- Where a grain's samples go. -/
def posV (o : IVec S4096 32) : IVec S4096x16384x1 32 :=
  broadcastInDim S4096x16384x1 ![0, 1] bcast_S4096x16384_S4096x16384x1_0_1
    (select (cmpi .slt (modV o) (broadcastInDim S4096x16384 ![] bcast_S_S4096x16384 (constantI S_ 32 0#32)))
      (addi (modV o) (broadcastInDim S4096x16384 ![] bcast_S_S4096x16384 (constantI S_ 32 524288#32))) (modV o))

/-- The signal. -/
def signalV (td ts : FVec Ideal S_ .f32) (f0 : FVec Ideal S4096 .f32) (o : IVec S4096 32) : FVec Ideal S524288 .f32 :=
  Host.scatterAdd scatter_S524288_S4096x16384x1_S4096x16384_n_0_0_2
    (broadcastInDim S524288 ![] bcast_S_S524288 (constant S_ .f32 0x00000000#32)) (posV o) (grainsV td ts f0)

/-- The norm of a signal. -/
def normV (x : FVec Ideal S524288 .f32) : FVec Ideal S_ .f32 :=
  Host.sqrt (Host.reduceAdd (mulf x x) (constant S_ .f32 0x00000000#32) reducesTo_S524288_S_d0 h_S_)

/-- The result. -/
def resultV (td ts : FVec Ideal S_ .f32) (f0 : FVec Ideal S4096 .f32) (o : IVec S4096 32) : FVec Ideal S524288 .f32 :=
  Host.divf (signalV td ts f0 o) (broadcastInDim S524288 ![] bcast_S_S524288 (normV (signalV td ts f0 o)))

theorem res_eq (m : (ℓ : Loc nD τ sig) → Buf (Elt Ideal) ℓ) (c : Dev nD) :
    Cert.ReferenceIdeal.Value.res_main_v98 m c =
      resultV (m ((c.tc : Thread nD τ).loc main_arg0)) (m ((c.tc : Thread nD τ).loc main_arg1))
        (m ((c.tc : Thread nD τ).loc main_arg2)) (m ((c.tc : Thread nD τ).loc main_arg3)) := by
  unfold Cert.ReferenceIdeal.Value.res_main_v98; rfl

/-- The mask, over the grains. -/
theorem mask_eq (td ts : FVec Ideal S_ .f32) (f0 : FVec Ideal S4096 .f32) (o : IVec S4096 32) :
    Cert.Pre_admissible.fn (F := Ideal) td ts f0 o =
      andi (andi (andi
        (andi (cmpi .sge o (broadcastInDim S4096 ![] bcast_S_S4096 (constantI S_ 32 0#32)))
          (cmpi .slt o (broadcastInDim S4096 ![] bcast_S_S4096 (constantI S_ 32 507904#32))))
        (broadcastInDim S4096 ![] bcast_S_S4096 (cmpf .une (slopeV ts) (constant S_ .f32 0x00000000#32))))
        (cmpf .ogt f0 (broadcastInDim S4096 ![] bcast_S_S4096 (constant S_ .f32 0x00000000#32))))
        (broadcastInDim S4096 ![] bcast_S_S4096 (cmpf .ogt (normV (signalV td ts f0 o)) (constant S_ .f32 0x00000000#32))) := by
  rfl

end

end

end Cert.ReferenceIdeal.Hand
-- ==== Proof.Ref.Scatter.lean ====
module

public import proofs.«01_k».proof.Proof.Ref.Stages
public import proofs.«01_k».proof.Proof.Ideal.Range

/-! The scatter of the reference: a sample of the signal is the sum of the grains' samples that land there. -/

@[expose] public section

set_option maxRecDepth 100000

noncomputable section

namespace Cert.ReferenceIdeal.Hand

open Idealize.ShloMosaic Idealize.ShloMosaic.Pointwise Cert.ReferenceIdeal Cert.ReferenceIdeal.Facts₀

/-- A sample lands where its index says. -/
theorem lands (idx : IVec S4096x16384x1 32) (q : Fin 4096) (k : Fin 16384) (n : Fin 524288) :
    scatter_S524288_S4096x16384x1_S4096x16384_n_0_0_2.resultIdx? (ix2 q k) idx = some (ix1 n) ↔ (idx (ix3 q k 0)).toInt = (n.val : ℤ) := by
  have hwin : scatter_S524288_S4096x16384x1_S4096x16384_n_0_0_2.window (ix2 q k) 0 = 0 := by
    unfold ScatterDims.window
    rw [dif_neg]
    intro h
    exact (of_decide_eq_true (List.mem_filter.1 h).2) (List.mem_singleton.2 rfl)
  have hm : (0 : Fin 1) ∈ scatter_S524288_S4096x16384x1_S4096x16384_n_0_0_2.scatterDimsToOperandDims := List.mem_singleton.2 rfl
  have hstart : scatter_S524288_S4096x16384x1_S4096x16384_n_0_0_2.start (ix2 q k) idx 0 = (idx (ix3 q k 0)).toInt := by
    unfold ScatterDims.start
    rw [dif_pos hm]
    congr 2
    funext b
    apply Fin.ext
    fin_cases b
    · rfl
    · rfl
    · rfl
  have hn := n.isLt
  unfold ScatterDims.resultIdx?
  split
  · next h =>
    have h0 := h 0
    change 0 ≤ ScatterDims.start _ (ix2 q k) idx 0 + (ScatterDims.window _ (ix2 q k) 0 : ℤ) ∧ ScatterDims.start _ (ix2 q k) idx 0 + (ScatterDims.window _ (ix2 q k) 0 : ℤ) < ((524288 : ℕ) : ℤ) at h0
    rw [hstart, hwin] at h0
    constructor
    · intro e
      have e0 := congrArg Fin.val (congrFun (Option.some.inj e) 0)
      change (ScatterDims.start _ (ix2 q k) idx 0 + (ScatterDims.window _ (ix2 q k) 0 : ℤ)).toNat = n.val at e0
      rw [hstart, hwin] at e0
      omega
    · intro e
      refine congrArg some (funext fun a => Fin.ext ?_)
      match a with
      | ⟨0, _⟩ =>
        show (ScatterDims.start _ (ix2 q k) idx 0 + (ScatterDims.window _ (ix2 q k) 0 : ℤ)).toNat = n.val
        rw [hstart, hwin]
        omega
  · next h =>
    constructor
    · intro e; cases e
    · intro e
      refine (h fun a => ?_).elim
      match a with
      | ⟨0, _⟩ =>
        show 0 ≤ ScatterDims.start _ (ix2 q k) idx 0 + (ScatterDims.window _ (ix2 q k) 0 : ℤ) ∧ ScatterDims.start _ (ix2 q k) idx 0 + (ScatterDims.window _ (ix2 q k) 0 : ℤ) < ((524288 : ℕ) : ℤ)
        rw [hstart, hwin]
        omega

theorem len_apply (i : S_.Idx) : lenV i = 524288#32 := rfl
theorem sum_apply (o : IVec S4096 32) (q : Fin 4096) (k : Fin 16384) :
    sumV o (ix2 q k) = o (ix1 q) + BitVec.ofNat 32 k.val := by
  pointwise [sumV]
  rfl
theorem rem_apply (o : IVec S4096 32) (q : Fin 4096) (k : Fin 16384) (ho : (o (ix1 q)).toNat < 507904) :
    remV o (ix2 q k) = o (ix1 q) + BitVec.ofNat 32 k.val := by
  pointwise [remV]
  rw [sum_apply, len_apply]
  have hk := k.isLt
  have hs : (o (ix1 q) + BitVec.ofNat 32 k.val).toNat = (o (ix1 q)).toNat + k.val := by
    rw [BitVec.toNat_add]
    simp only [BitVec.toNat_ofNat, Nat.reducePow]
    omega
  generalize o (ix1 q) + BitVec.ofNat 32 k.val = x at hs
  have hc : ¬ IntOp.SDivCorner x 524288#32 := by
    unfold IntOp.SDivCorner
    rintro (h' | h')
    · exact absurd h' (by decide)
    · exact absurd h'.2 (by decide)
  show IntOp.remsi .host x 524288#32 = x
  unfold IntOp.remsi
  have hx : x.msb = false := by rw [BitVec.msb_eq_false_iff_two_mul_lt]; omega
  rw [if_neg hc, BitVec.srem_eq, hx]
  simp only [show (524288#32 : BitVec 32).msb = false by decide]
  apply BitVec.eq_of_toNat_eq
  rw [BitVec.toNat_umod]
  simp only [BitVec.toNat_ofNat, Nat.reducePow, Nat.reduceMod]
  omega
theorem mod_apply (o : IVec S4096 32) (q : Fin 4096) (k : Fin 16384) (ho : (o (ix1 q)).toNat < 507904) :
    modV o (ix2 q k) = o (ix1 q) + BitVec.ofNat 32 k.val := by
  have hk := k.isLt
  have hs : (o (ix1 q) + BitVec.ofNat 32 k.val).toNat = (o (ix1 q)).toNat + k.val := by
    rw [BitVec.toNat_add]
    simp only [BitVec.toNat_ofNat, Nat.reducePow]
    omega
  pointwise [modV]
  simp only [rem_apply o q k ho, len_apply]
  generalize o (ix1 q) + BitVec.ofNat 32 k.val = x at hs
  have hlt : IntOp.cmpi .slt x 0#32 = 0#1 := by
    show BitVec.ofBool (x.slt 0#32) = 0#1
    have : x.slt 0#32 = false := by
      rw [Bool.eq_false_iff]
      intro h
      have h := BitVec.slt_iff_toInt_lt.mp h
      rw [BitVec.toInt_eq_toNat_cond, if_pos (by omega)] at h
      simp at h
      omega
    rw [this]; rfl
  rw [hlt]
  have e : ∀ b : BitVec 1, IntOp.andi (IntOp.cmpi .ne 0#1 (IntOp.cmpi .slt (524288#32 : BitVec 32) 0#32)) b = 0#1 := by decide
  rw [e]
  rfl
theorem pos_apply (o : IVec S4096 32) (q : Fin 4096) (k : Fin 16384) (ho : (o (ix1 q)).toNat < 507904) :
    (posV o (ix3 q k 0)).toInt = (((o (ix1 q)).toNat + k.val : ℕ) : ℤ) := by
  have hk := k.isLt
  have hs : (o (ix1 q) + BitVec.ofNat 32 k.val).toNat = (o (ix1 q)).toNat + k.val := by
    rw [BitVec.toNat_add]
    simp only [BitVec.toNat_ofNat, Nat.reducePow]
    omega
  pointwise [posV]
  simp only [mod_apply o q k ho]
  generalize o (ix1 q) + BitVec.ofNat 32 k.val = x at hs
  have hlt : IntOp.cmpi .slt x 0#32 = 0#1 := by
    show BitVec.ofBool (x.slt 0#32) = 0#1
    have : x.slt 0#32 = false := by
      rw [Bool.eq_false_iff]
      intro h
      have h := BitVec.slt_iff_toInt_lt.mp h
      rw [BitVec.toInt_eq_toNat_cond, if_pos (by omega)] at h
      simp at h
      omega
    rw [this]; rfl
  rw [hlt]
  show x.toInt = _
  rw [BitVec.toInt_eq_toNat_cond, if_pos (by omega), hs]

/-- A sample of the signal. -/
theorem signal_apply (td ts : S_.Idx → EReal) (f0 : S4096.Idx → EReal) (o : IVec S4096 32) (ho : ∀ i, (o i).toNat < 507904) (n : Fin 524288) :
    signalV td ts f0 o (ix1 n)
      = ∑ q : Fin 4096, if h : (o (ix1 q)).toNat ≤ n.val ∧ n.val < (o (ix1 q)).toNat + 16384 then
          grainsV td ts f0 (ix2 q ⟨n.val - (o (ix1 q)).toNat, by omega⟩) else 0 := by
  unfold signalV
  show Ideal.hostScatterAdd _ _ _ _ _ = _
  unfold Ideal.hostScatterAdd
  have hz : broadcastInDim S524288 ![] bcast_S_S524288 (constant (F := Ideal) S_ .f32 0x00000000#32) (ix1 n) = 0 := by
    pointwise []
  rw [hz, zero_add, Finset.sum_filter, sum_idx2]
  refine Finset.sum_congr rfl fun q _ => ?_
  have hiff : ∀ k : Fin 16384, scatter_S524288_S4096x16384x1_S4096x16384_n_0_0_2.resultIdx? (ix2 q k) (posV o) = some (ix1 n)
      ↔ (o (ix1 q)).toNat + k.val = n.val := fun k => by
    rw [lands, pos_apply o q k (ho _)]; omega
  by_cases h : (o (ix1 q)).toNat ≤ n.val ∧ n.val < (o (ix1 q)).toNat + 16384
  · rw [dif_pos h]
    rw [Finset.sum_eq_single_of_mem ⟨n.val - (o (ix1 q)).toNat, by omega⟩ (Finset.mem_univ _)]
    · exact if_pos ((hiff _).mpr (by show _ + (_ - _) = _; omega))
    · intro k _ hk
      refine if_neg fun e => hk (Fin.ext ?_)
      have := (hiff k).mp e
      show k.val = _ - _
      omega
  · rw [dif_neg h]
    refine Finset.sum_eq_zero fun k _ => if_neg fun e => h ?_
    have := (hiff k).mp e
    have := k.isLt
    omega

end Cert.ReferenceIdeal.Hand
-- ==== Proof.Ideal.Consts.lean ====
/- The constants of the programs, over the extended reals. -/
module

public import Idealize.ShloMosaic.PureOps.Ideal

@[expose] public section

namespace Cert.Consts

open Idealize.ShloMosaic

theorem c_16384 : Ideal.ofBits .f32 0x46800000#32 = ((16384 : ℝ) : EReal) := by
  simp [Ideal.ofBits, Ideal.ieee]; rw [← EReal.coe_mul]; norm_num
theorem c_half_win : Ideal.ofBits .f32 0x38000000#32 = ((1 / 32768 : ℝ) : EReal) := by
  simp [Ideal.ofBits, Ideal.ieee]; rw [← EReal.coe_mul]; norm_num
theorem c_half : Ideal.ofBits .f32 0x3F000000#32 = ((1 / 2 : ℝ) : EReal) := by
  simp [Ideal.ofBits, Ideal.ieee]; rw [← EReal.coe_mul]; norm_num
theorem c_slope : Ideal.ofBits .f32 0x4065B000#32 = ((3675 / 1024 : ℝ) : EReal) := by
  simp [Ideal.ofBits, Ideal.ieee]; rw [← EReal.coe_mul]; norm_num
theorem c_slope4 : Ideal.ofBits .f32 0x4165B000#32 = ((3675 / 256 : ℝ) : EReal) := by
  simp [Ideal.ofBits, Ideal.ieee]; rw [← EReal.coe_mul]; norm_num
theorem c_4 : Ideal.ofBits .f32 0x40800000#32 = ((4 : ℝ) : EReal) := by
  simp [Ideal.ofBits, Ideal.ieee]; rw [← EReal.coe_mul]; norm_num
theorem c_2 : Ideal.ofBits .f32 0x40000000#32 = ((2 : ℝ) : EReal) := by
  simp [Ideal.ofBits, Ideal.ieee]; rw [← EReal.coe_mul]; norm_num
theorem c_quarter : Ideal.ofBits .f32 0x3E800000#32 = ((1 / 4 : ℝ) : EReal) := by
  simp [Ideal.ofBits, Ideal.ieee]; rw [← EReal.coe_mul]; norm_num
theorem c_three_quarters : Ideal.ofBits .f32 0x3F400000#32 = ((3 / 4 : ℝ) : EReal) := by
  simp [Ideal.ofBits, Ideal.ieee]; rw [← EReal.coe_mul]; norm_num
theorem c_4096 : Ideal.ofBits .f32 0x45800000#32 = ((4096 : ℝ) : EReal) := by
  simp [Ideal.ofBits, Ideal.ieee]; rw [← EReal.coe_mul]; norm_num
theorem c_inv_4096 : Ideal.ofBits .f32 0x39800000#32 = ((1 / 4096 : ℝ) : EReal) := by
  simp [Ideal.ofBits, Ideal.ieee]; rw [← EReal.coe_mul]; norm_num
theorem c_44100 : Ideal.ofBits .f32 0x472C4400#32 = ((44100 : ℝ) : EReal) := by
  simp [Ideal.ofBits, Ideal.ieee]; rw [← EReal.coe_mul]; norm_num
theorem c_neg_inf : Ideal.ofBits .f32 0xFF800000#32 = ⊥ := by
  simp [Ideal.ofBits, Ideal.ieee]
theorem c_inf : Ideal.ofBits .f32 0x7F800000#32 = ⊤ := by
  simp [Ideal.ofBits, Ideal.ieee]

end Cert.Consts
-- ==== Proof.Ref.Read.lean ====
module

public import proofs.«01_k».proof.Proof.Ref.Scatter
public import proofs.«01_k».proof.Proof.Ideal.Consts

/-! The stages of the reference, entry by entry. -/

@[expose] public section

set_option maxRecDepth 100000

noncomputable section

namespace Cert.ReferenceIdeal.Hand

open Idealize.ShloMosaic Idealize.ShloMosaic.Pointwise Cert.ReferenceIdeal Cert.ReferenceIdeal.Facts₀ Cert.Consts

theorem count_toInt (k : ℕ) (hk : k < 16384) : FloatOps.sitofp (F := Ideal) .f32 (BitVec.ofNat 32 k) = ((k : ℝ) : EReal) := by
  show (((BitVec.ofNat 32 k).toInt : ℝ) : EReal) = _
  have : (BitVec.ofNat 32 k).toInt = (k : ℤ) := by
    rw [BitVec.toInt_eq_toNat_cond]
    simp only [BitVec.toNat_ofNat, Nat.reducePow]
    rw [if_pos (by omega)]
    omega
  rw [this, Int.cast_natCast]

theorem pi_eq : Ideal.ofBits .f32 0x40800000#32 * Ideal.atan 1 = ((Real.pi : ℝ) : EReal) := by
  rw [c_4, ← EReal.coe_one, Ideal.atan_coe, Real.arctan_one, ← EReal.coe_mul]
  congr 1
  ring

/-- The root of the window. -/
def wrootR (k : ℕ) : ℝ := Real.sin (Real.pi * k / 16384)

theorem grains_apply (td ts : S_.Idx → EReal) (f0 : S4096.Idx → EReal) (q : Fin 4096) (k : Fin 16384) :
    grainsV td ts f0 (ix2 q k) =
      Ideal.div (Ideal.sin (((2 * Real.pi : ℝ) : EReal) * f0 (ix1 q) * phaseV ts (ix1 k)) * ampV td (ix1 q)
        * (((wrootR k.val * wrootR k.val : ℝ)) : EReal)) (Ideal.sqrt (f0 (ix1 q))) := by
  pointwise [grainsV, piV, windV]
  rw [pi_eq, c_2, ← EReal.coe_mul, count_toInt k.val k.isLt, c_16384, ← EReal.coe_mul, Ideal.div_coe (by norm_num), ← EReal.coe_mul, Ideal.sin_coe,
    ← EReal.coe_mul]
  unfold wrootR
  rw [mul_one_div]

/-- Time. -/
def timeR (k : ℕ) : ℝ := k / 44100 - 16384 / 44100 / 2

theorem phase_apply (ts : S_.Idx → EReal) (k : Fin 16384) (γ : ℝ) (hγ : slopeV ts ix0 = (γ : EReal)) (h0 : γ ≠ 0) :
    phaseV ts (ix1 k) = (((Real.exp (γ * timeR k.val) - 1) * (1 / γ) : ℝ) : EReal) := by
  pointwise [phaseV, timeV, safeV]
  have hne : ¬ ((γ : EReal) = 0) := fun h => h0 (EReal.coe_eq_zero.mp h)
  rw [hγ]
  simp only [if_neg hne]
  rw [count_toInt k.val k.isLt, c_44100, c_16384, c_2]
  simp only [Ideal.div_coe (show (44100 : ℝ) ≠ 0 by norm_num), Ideal.div_coe (show (2 : ℝ) ≠ 0 by norm_num), Ideal.div_coe h0,
    ← EReal.coe_mul, ← EReal.coe_sub, Ideal.exp_coe, ← EReal.coe_one]
  unfold timeR
  simp only [mul_one_div]

theorem slope_apply (ts : S_.Idx → EReal) (t : ℝ) (ht : ts ix0 = (t : EReal)) :
    slopeV ts ix0 = ((Real.tan (t * Real.pi / 2) * (3675 / 1024) : ℝ) : EReal) := by
  pointwise [slopeV, piV]
  rw [pi_eq, ht, c_2, c_slope4, c_4, ← EReal.coe_mul, Ideal.div_coe (by norm_num), Ideal.div_coe (by norm_num), ← EReal.coe_mul, Ideal.tan_coe,
    ← EReal.coe_mul, ← EReal.coe_mul]
  refine congrArg (fun z : ℝ => (z : EReal)) ?_
  rw [show t * Real.pi * (1 / 2) = t * Real.pi / 2 by ring]
  ring

/-- At an infinite angle the slope is infinite. -/
theorem slope_inf (ts : S_.Idx → EReal) (ht : ts ix0 = ⊤ ∨ ts ix0 = ⊥) : slopeV ts ix0 = ⊥ := by
  have h2 : (0 : ℝ) < 1 / 2 := by norm_num
  have ha : Ideal.tan (ts ix0 * ((Real.pi : ℝ) : EReal) * ((1 / 2 : ℝ) : EReal)) = ⊥ := by
    rcases ht with h | h <;> rw [h]
    · rw [EReal.top_mul_coe_of_pos Real.pi_pos, EReal.top_mul_coe_of_pos h2]
      rfl
    · rw [EReal.bot_mul_coe_of_pos Real.pi_pos, EReal.bot_mul_coe_of_pos h2]
      rfl
  pointwise [slopeV, piV]
  rw [pi_eq, c_2, c_slope4, c_4, Ideal.div_coe (by norm_num), Ideal.div_coe (by norm_num), ha, EReal.bot_mul_coe_of_pos (by norm_num),
    EReal.bot_mul_coe_of_pos (by norm_num)]

/-- At an infinite slope the phase stands still. -/
theorem phase_inf (ts : S_.Idx → EReal) (k : Fin 16384) (hs : slopeV ts ix0 = ⊥) : phaseV ts (ix1 k) = 0 := by
  pointwise [phaseV, timeV, safeV]
  have hne : ¬ ((⊥ : EReal) = 0) := EReal.bot_ne_zero
  rw [hs]
  simp only [if_neg hne]
  generalize Ideal.exp _ - 1 = x
  simp [Ideal.div]

/-- The sigmoid's argument. -/
def argR (d : ℝ) (q : ℕ) : ℝ := 2 * ((1 - d) * 4096 * (q / 4096 - (1 / 4 * d + 3 / 4 * d * d)))

theorem raw_apply (td : S_.Idx → EReal) (q : Fin 4096) (d : ℝ) (hd : td ix0 = (d : EReal)) :
    rawV td (ix1 q) = ((1 / (1 + Real.exp (argR d q.val)) : ℝ) : EReal) := by
  pointwise [rawV, argV, centreV]
  have hp : (1 + Real.exp (-argR d q.val)) ≠ 0 := by positivity
  have e : (-(2 * ((1 - d) * 4096 * (q.val * (1 / 4096) - (1 / 4 * d + 3 / 4 * (d * d)))))) = - argR d q.val := by unfold argR; ring
  rw [hd, c_2, c_4096, c_quarter, c_three_quarters, count_toInt q.val (by have := q.isLt; omega), ← EReal.coe_one, Ideal.div_coe (by norm_num)]
  simp only [← EReal.coe_mul, ← EReal.coe_sub, ← EReal.coe_add, ← EReal.coe_neg, Ideal.exp_coe]
  rw [e, Ideal.div_coe hp]
  simp only [← EReal.coe_mul, ← EReal.coe_sub]
  congr 1
  rw [Real.exp_neg]
  have := Real.exp_pos (argR d q.val)
  field_simp
  ring

theorem real_sub_top (r : ℝ) : (r : EReal) - ⊤ = ⊥ := by
  rw [sub_eq_add_neg, EReal.neg_top, EReal.add_bot]

theorem real_sub_bot (r : ℝ) : (r : EReal) - ⊥ = ⊤ := by
  rw [sub_eq_add_neg, EReal.neg_bot, EReal.coe_add_top]

theorem raw_top (td : S_.Idx → EReal) (q : Fin 4096) (hd : td ix0 = ⊤) : rawV td (ix1 q) = 0 := by
  pointwise [rawV, argV, centreV]
  rw [hd, c_2, c_4096, c_quarter, c_three_quarters, count_toInt q.val (by have := q.isLt; omega), ← EReal.coe_one, Ideal.div_coe (by norm_num),
    real_sub_top, EReal.bot_mul_coe_of_pos (by norm_num), EReal.coe_mul_top_of_pos (by norm_num), EReal.top_mul_top,
    EReal.coe_mul_top_of_pos (by norm_num), EReal.top_add_top, ← EReal.coe_mul, real_sub_top, EReal.bot_mul_bot,
    EReal.coe_mul_top_of_pos (by norm_num), EReal.neg_top, Ideal.exp_bot, add_zero, Ideal.div_coe one_ne_zero, ← EReal.coe_mul, ← EReal.coe_sub]
  norm_num

theorem raw_bot (td : S_.Idx → EReal) (q : Fin 4096) (hd : td ix0 = ⊥) : rawV td (ix1 q) = 0 := by
  pointwise [rawV, argV, centreV]
  rw [hd, c_2, c_4096, c_quarter, c_three_quarters, count_toInt q.val (by have := q.isLt; omega), ← EReal.coe_one, Ideal.div_coe (by norm_num),
    real_sub_bot, EReal.top_mul_coe_of_pos (by norm_num), EReal.coe_mul_bot_of_pos (by norm_num), EReal.bot_add, ← EReal.coe_mul,
    real_sub_bot, EReal.top_mul_top,
    EReal.coe_mul_top_of_pos (by norm_num), EReal.neg_top, Ideal.exp_bot, add_zero, Ideal.div_coe one_ne_zero, ← EReal.coe_mul, ← EReal.coe_sub]
  norm_num

/-- The greatest amplitude. -/
def topR (td : S_.Idx → EReal) : EReal := Finset.fold max ⊥ (fun k : Fin 4096 => rawV td (ix1 k)) Finset.univ

theorem amp_apply (td : S_.Idx → EReal) (q : Fin 4096) :
    ampV td (ix1 q) = Ideal.div (rawV td (ix1 q)) (topR td) := by
  pointwise [ampV, topV]
  rw [c_neg_inf]
  rfl
theorem norm_apply (x : S524288.Idx → EReal) : normV x ix0 = Ideal.sqrt (∑ n : Fin 524288, x (ix1 n) * x (ix1 n)) := by
  pointwise [normV]
theorem result_apply (td ts : S_.Idx → EReal) (f0 : S4096.Idx → EReal) (o : IVec S4096 32) (n : Fin 524288) :
    resultV td ts f0 o (ix1 n) = Ideal.div (signalV td ts f0 o (ix1 n)) (normV (signalV td ts f0 o) ix0) := by
  pointwise [resultV]

end Cert.ReferenceIdeal.Hand
-- ==== Proof.Ref.Mask.lean ====
module

public import proofs.«01_k».proof.Proof.Ref.Scatter
public import proofs.«01_k».proof.Proof.Ideal.Consts

/-! What the precondition says, entry by entry. -/

@[expose] public section

set_option maxRecDepth 100000

noncomputable section

namespace Cert.ReferenceIdeal.Hand

open Idealize.ShloMosaic Idealize.ShloMosaic.Pointwise Cert.ReferenceIdeal Cert.ReferenceIdeal.Facts₀ Cert.Consts

/-- What the precondition says. -/
theorem mask_holds (td ts : S_.Idx → EReal) (f0 : S4096.Idx → EReal) (o : IVec S4096 32)
    (h : Cert.Pre_admissible.fn (F := Ideal) td ts f0 o = fun _ => 1#1) (q : Fin 4096) :
    (o (ix1 q)).toNat < 507904 ∧ slopeV ts ix0 ≠ 0 ∧ 0 < f0 (ix1 q) ∧ 0 < normV (signalV td ts f0 o) ix0 := by
  have h := congrFun h (ix1 q)
  rw [mask_eq] at h
  have key : ∀ a b c d : BitVec 1, IntOp.andi (IntOp.andi (IntOp.andi a b) c) d = 1#1 →
      a = 1#1 ∧ b = 1#1 ∧ c = 1#1 ∧ d = 1#1 := by decide
  have hb : ∀ b : Bool, BitVec.ofBool b = 1#1 → b = true := by decide
  have h' : IntOp.andi (IntOp.andi (IntOp.andi
      (IntOp.andi (IntOp.cmpi .sge (o (ix1 q)) 0#32) (IntOp.cmpi .slt (o (ix1 q)) 507904#32))
      (BitVec.ofBool (decide (slopeV ts ix0 ≠ 0))))
      (BitVec.ofBool (decide (0 < f0 (ix1 q)))))
      (BitVec.ofBool (decide (0 < normV (signalV td ts f0 o) ix0))) = 1#1 := by
    rw [← h]
    pointwise []
  obtain ⟨h1, h2, h3, h4⟩ := key _ _ _ _ h'
  exact ⟨Cert.KernelIdeal.Hand.lt_of_mask _ h1, of_decide_eq_true (hb _ h2), of_decide_eq_true (hb _ h3), of_decide_eq_true (hb _ h4)⟩

end Cert.ReferenceIdeal.Hand
-- ==== Proof.Ideal.Grain.lean ====
/- One grain of the kernel, over the extended reals: the value its window holds at a sample, and the block after it. -/
module

public import proofs.«01_k».proof.Proof.Ideal.Range
public import proofs.«01_k».proof.Proof.Ideal.Values
public import Idealize.ShloMosaic.Lib.Pointwise
public import Idealize.ShloMosaic.Lib.Pipeline.ValueKit.Geometry
public import Idealize.ShloMosaic.PureOps.Ideal
public import Idealize.ShloMosaic.PureOps.IdealRules

@[expose] public section

set_option maxRecDepth 100000

noncomputable section

namespace Cert.KernelIdeal.Hand

open Cert.KernelIdeal Cert.KernelIdeal.Gen Idealize.ShloMosaic Idealize.ShloMosaic.Pointwise

/-- The cycles of a grain at a sample, before they are brought near zero. -/
def cyc (g ig f k : EReal) : EReal :=
  (f * ig) * (Ideal.exp (k * (g * ((1 / 44100 : ℝ) : EReal)) + (0 - g) * ((2048 / 11025 : ℝ) : EReal)) - 1)

/-- The root of the window at a sample. -/
def wroot (k : EReal) : EReal := Ideal.sin ((k * Ideal.ofBits .f32 0x38000000#32) * ((2 * Real.pi : ℝ) : EReal))

/-- The value of a grain at a sample: `g` and `ig` the slope and its inverse, `f` the frequency, `sc` the scale, `k` the
    sample, counted from the onset. -/
def kval (g ig f sc k : EReal) : EReal :=
  (sc * (wroot k * wroot k)) * Ideal.sin ((cyc g ig f k - Ideal.liftRound Ideal.roundHalfEven (cyc g ig f k)) * ((2 * Real.pi : ℝ) : EReal))

theorem named_two_pi : Named.named (F := Ideal) κ (φ := .f32) "two_pi" 0x40C90FDB#32 = ((2 * Real.pi : ℝ) : EReal) :=
  (IdealRules.named_const.statement _ _ _ _ _ rfl).2.2
theorem named_inv_sr : Named.named (F := Ideal) κ (φ := .f32) "inv_sr" 0x37BE37C6#32 = ((1 / 44100 : ℝ) : EReal) :=
  (IdealRules.named_const.statement _ _ _ _ _ rfl).2.2
theorem named_half_dur : Named.named (F := Ideal) κ (φ := .f32) "half_dur" 0x3E3E37C6#32 = ((2048 / 11025 : ℝ) : EReal) :=
  (IdealRules.named_const.statement _ _ _ _ _ rfl).2.2
theorem named_pi : Named.named (F := Ideal) κ (φ := .f32) "pi" 0x40490FDB#32 = ((Real.pi : ℝ) : EReal) :=
  (IdealRules.named_const.statement _ _ _ _ _ rfl).2.2

/-- The sample a place of the window is at, clamped to the grain. -/
def clampK (o : BitVec 32) (r l : ℕ) : EReal :=
  min (max ((((BitVec.ofNat 32 r * 128#32 + BitVec.ofNat 32 l).toInt : ℝ) : EReal) - (((o - Scalar.muli (Scalar.divsi o 1024#32) 1024#32).toInt : ℝ) : EReal))
    (Ideal.ofBits .f32 0x00000000#32)) (Ideal.ofBits .f32 0x46800000#32)

theorem pay7_apply (o : BitVec 32) (r : Fin 136) (l : Fin 128) :
    k1_pay7 (F := Ideal) o (ix2 r l) = clampK o r.val l.val := by
  pointwise [k1_pay7, k1_pay5, clampK]
  rfl

theorem grainPay_apply (g ig : EReal) (o : BitVec 32) (f sc : EReal) (old : S1x136x128.Idx → EReal) (r : Fin 136) (l : Fin 128) :
    grainPay (F := Ideal) g ig o f sc old (ix3 0 r l) = old (ix3 0 r l) + kval g ig f sc (clampK o r.val l.val) := by
  pointwise [grainPay, k1_pay9, k1_pay8, k1_pay6, k1_pay3, k1_pay4]
  rw [pay7_apply]
  simp only [ite_self, named_two_pi, named_inv_sr, named_half_dur]
  rfl

theorem ofBits_16384 : Ideal.ofBits .f32 0x46800000#32 = ((16384 : ℝ) : EReal) := by
  simp [Ideal.ofBits, Ideal.ieee]; rw [← EReal.coe_mul]; norm_num
theorem ofBits_half_win : Ideal.ofBits .f32 0x38000000#32 = ((1 / 32768 : ℝ) : EReal) := by
  simp [Ideal.ofBits, Ideal.ieee]; rw [← EReal.coe_mul]; norm_num

/-- The place of the window a word's onset leaves inside a tile of `1024` samples. -/
theorem low_toInt (o : BitVec 32) (h : o.toNat < 507904) :
    (o - Scalar.muli (Scalar.divsi o 1024#32) 1024#32).toInt = ((o.toNat % 1024 : ℕ) : ℤ) := by
  have hm : (Scalar.muli (Scalar.divsi o 1024#32) 1024#32).toNat = 1024 * (o.toNat / 1024) := by
    show (Scalar.divsi o 1024#32 * 1024#32).toNat = _
    rw [BitVec.toNat_mul, divsi_toNat o 1024#32 (by omega) (by decide) (by decide)]
    simp only [BitVec.toNat_ofNat, Nat.reducePow, Nat.reduceMod]
    omega
  have hs : (o - Scalar.muli (Scalar.divsi o 1024#32) 1024#32).toNat = o.toNat % 1024 := by
    rw [BitVec.toNat_sub, hm]
    omega
  rw [BitVec.toInt_eq_toNat_cond, hs, if_pos (by omega)]

theorem place_toInt (r l : ℕ) (hr : r < 136) (hl : l < 128) :
    (BitVec.ofNat 32 r * 128#32 + BitVec.ofNat 32 l).toInt = ((128 * r + l : ℕ) : ℤ) := by
  have hs : (BitVec.ofNat 32 r * 128#32 + BitVec.ofNat 32 l).toNat = 128 * r + l := by
    rw [BitVec.toNat_add, BitVec.toNat_mul]
    simp only [BitVec.toNat_ofNat, Nat.reducePow, Nat.reduceMod]
    omega
  rw [BitVec.toInt_eq_toNat_cond, hs, if_pos (by omega)]

theorem coe_max' (a b : ℝ) : ((max a b : ℝ) : EReal) = max (a : EReal) b := EReal.coe_strictMono.monotone.map_max
theorem coe_min' (a b : ℝ) : ((min a b : ℝ) : EReal) = min (a : EReal) b := EReal.coe_strictMono.monotone.map_min

theorem clampK_eq (o : BitVec 32) (h : o.toNat < 507904) (r l : ℕ) (hr : r < 136) (hl : l < 128) :
    clampK o r l = ((min (max (((128 * r + l : ℕ) : ℝ) - ((o.toNat % 1024 : ℕ) : ℝ)) 0) 16384 : ℝ) : EReal) := by
  unfold clampK
  rw [low_toInt o h, place_toInt r l hr hl, ofBits_16384, Ideal.ofBits_zero_f32, ← EReal.coe_sub, ← EReal.coe_zero, ← coe_max', ← coe_min']
  simp only [Int.cast_natCast]

theorem kval_zero (g ig f sc : EReal) : kval g ig f sc ((0 : ℝ) : EReal) = 0 := by
  have h : wroot ((0 : ℝ) : EReal) = 0 := by
    unfold wroot
    rw [ofBits_half_win, ← EReal.coe_mul, ← EReal.coe_mul, Ideal.sin_coe]
    simp
  unfold kval
  rw [h]; simp

theorem kval_end (g ig f sc : EReal) : kval g ig f sc ((16384 : ℝ) : EReal) = 0 := by
  have h : wroot ((16384 : ℝ) : EReal) = 0 := by
    unfold wroot
    rw [ofBits_half_win, ← EReal.coe_mul, ← EReal.coe_mul, Ideal.sin_coe]
    rw [show (16384 : ℝ) * (1 / 32768) * (2 * Real.pi) = Real.pi by ring, Real.sin_pi]
    simp
  unfold kval
  rw [h]; simp

/-- What a grain of onset `o` adds at sample `n`. -/
def addK (g ig f sc : EReal) (o n : ℕ) : EReal :=
  if o ≤ n ∧ n < o + 16384 then kval g ig f sc (((n - o : ℕ) : ℝ) : EReal) else 0

theorem kval_clamp (g ig : EReal) (o : BitVec 32) (f sc : EReal) (h : o.toNat < 507904) (r l : ℕ) (hr : r < 136) (hl : l < 128) :
    kval g ig f sc (clampK o r l) = addK g ig f sc o.toNat (128 * (8 * (o.toNat / 1024) + r) + l) := by
  rw [clampK_eq o h r l hr hl]
  unfold addK
  by_cases h1 : o.toNat % 1024 ≤ 128 * r + l
  · by_cases h2 : 128 * r + l < o.toNat % 1024 + 16384
    · rw [if_pos (by omega)]
      congr 2
      rw [show 128 * (8 * (o.toNat / 1024) + r) + l - o.toNat = 128 * r + l - o.toNat % 1024 by omega, Nat.cast_sub h1]
      have e1 : ((o.toNat % 1024 : ℕ) : ℝ) ≤ ((128 * r + l : ℕ) : ℝ) := by exact_mod_cast h1
      have e2 : ((128 * r + l : ℕ) : ℝ) < ((o.toNat % 1024 + 16384 : ℕ) : ℝ) := by exact_mod_cast h2
      rw [Nat.cast_add] at e2
      rw [max_eq_left (by linarith), min_eq_left]
      push_cast at e2 ⊢
      linarith
    · rw [if_neg (by omega)]
      have e2 : ((o.toNat % 1024 + 16384 : ℕ) : ℝ) ≤ ((128 * r + l : ℕ) : ℝ) := by exact_mod_cast (not_lt.mp h2)
      rw [Nat.cast_add] at e2
      rw [min_eq_right (le_max_of_le_left (by push_cast at e2 ⊢; linarith))]
      exact kval_end _ _ _ _
  · rw [if_neg (by omega)]
    have e1 : ((128 * r + l : ℕ) : ℝ) ≤ ((o.toNat % 1024 : ℕ) : ℝ) := by exact_mod_cast (le_of_lt (not_le.mp h1))
    rw [max_eq_right (by linarith), min_eq_left (by norm_num)]
    exact kval_zero _ _ _ _

/-- The block after one grain. -/
theorem grainStep_apply (g ig : EReal) (o : BitVec 32) (f sc : EReal) (h : o.toNat < 507904) (X : S1x4096x128.Idx → EReal) (r : Fin 4096) (l : Fin 128) :
    grainStep (F := Ideal) g ig o f sc X (ix3 0 r l) = X (ix3 0 r l) + addK g ig f sc o.toNat (128 * r.val + l.val) := by
  unfold grainStep
  rw [dif_pos (chk_of_lt o h)]
  generalize hinb : k1_off2_inb o (chk_of_lt o h) = inb
  have hemb : ∀ (r' : Fin 136) (l' : Fin 128) (hr : 8 * (o.toNat / 1024) + r'.val < 4096),
      (Rect.unit (s := S1x4096x128) (k1_off2 o) S1x136x128.size inb).emb (ix3 0 r' l') = ix3 0 ⟨8 * (o.toNat / 1024) + r'.val, hr⟩ l' := by
    intro r' l' hr
    funext a
    refine Fin.ext ((ValueKit.rect_emb_unit_val _ _ _ _ _).trans ?_)
    have hoff : k1_off2 o a = ![0, 8 * (o.toNat / 1024), 0] a := congrFun (off2_eq o h) a
    refine (congrArg (· + _) hoff).trans ?_
    fin_cases a
    · rfl
    · rfl
    · show 0 + l'.val = l'.val; omega
  by_cases hy : ix3 0 r l ∈ (Rect.unit (s := S1x4096x128) (k1_off2 o) S1x136x128.size inb).set
  · obtain ⟨x, hx⟩ := (Rect.unit (s := S1x4096x128) (k1_off2 o) S1x136x128.size inb).exists_idx_of_mem hy
    obtain ⟨z, r', l', rfl⟩ : ∃ (z : Fin 1) (r' : Fin 136) (l' : Fin 128), x = ix3 z r' l' :=
      ⟨x 0, x 1, x 2, by funext a; fin_cases a <;> rfl⟩
    obtain rfl : z = 0 := Subsingleton.elim _ _
    have hlt : 8 * (o.toNat / 1024) + r'.val < 4096 := by have := r'.isLt; omega
    have he := hemb r' l' hlt
    have hx' : ix3 0 r l = (Rect.unit (s := S1x4096x128) (k1_off2 o) S1x136x128.size inb).emb (ix3 0 r' l') := hx.symm
    have hcoord := hx'.trans he
    have hr : r.val = 8 * (o.toNat / 1024) + r'.val := congrArg Fin.val (congrFun hcoord 1)
    have hl : l.val = l'.val := congrArg Fin.val (congrFun hcoord 2)
    rw [hx', Rect.overlay_emb]
    refine (grainPay_apply g ig o f sc _ r' l').trans ?_
    rw [kval_clamp g ig o f sc h r'.val l'.val r'.isLt l'.isLt, hr, hl]
    rfl
  · rw [Rect.overlay_of_not_mem _ _ _ hy]
    unfold addK
    rw [if_neg, add_zero]
    rintro ⟨h1, h2⟩
    have hr := r.isLt
    have hl := l.isLt
    refine hy ?_
    have hlt : r.val - 8 * (o.toNat / 1024) < 136 := by omega
    have hge : 8 * (o.toNat / 1024) ≤ r.val := by omega
    have he := hemb ⟨r.val - 8 * (o.toNat / 1024), hlt⟩ l (by show _ + (r.val - _) < _; omega)
    have hm := (Rect.unit (s := S1x4096x128) (k1_off2 o) S1x136x128.size inb).idx_mem (ix3 0 ⟨r.val - 8 * (o.toNat / 1024), hlt⟩ l)
    have he' : (Rect.unit (s := S1x4096x128) (k1_off2 o) S1x136x128.size inb).idx (ix3 0 ⟨r.val - 8 * (o.toNat / 1024), hlt⟩ l) = _ := he
    rw [he'] at hm
    have e : (⟨8 * (o.toNat / 1024) + (r.val - 8 * (o.toNat / 1024)), by omega⟩ : Fin 4096) = r := Fin.ext (by show _ + (_ - _) = _; omega)
    rw [e] at hm
    exact hm

end Cert.KernelIdeal.Hand
-- ==== Proof.Ideal.Block.lean ====
/- The blocks of the main call, over the extended reals: each sample is the sum of what the grains add there. -/
module

public import proofs.«01_k».proof.Proof.Ideal.Grain

@[expose] public section

set_option maxRecDepth 100000

noncomputable section

namespace Cert.KernelIdeal.Hand

open Cert.KernelIdeal Cert.KernelIdeal.Gen Idealize.ShloMosaic Idealize.ShloMosaic.Pointwise

theorem off_1 : ∀ t : Fin grid1.N, k1_off1 (grid1.coords t) 0 = 8 * t.val := by decide +kernel
theorem off_3 : ∀ t : Fin grid1.N, k1_off3 (grid1.coords t) 0 = 8 * t.val + 1 := by decide +kernel
theorem off_5 : ∀ t : Fin grid1.N, k1_off5 (grid1.coords t) 0 = 8 * t.val + 2 := by decide +kernel
theorem off_7 : ∀ t : Fin grid1.N, k1_off7 (grid1.coords t) 0 = 8 * t.val + 3 := by decide +kernel
theorem off_9 : ∀ t : Fin grid1.N, k1_off9 (grid1.coords t) 0 = 8 * t.val + 4 := by decide +kernel
theorem off_11 : ∀ t : Fin grid1.N, k1_off11 (grid1.coords t) 0 = 8 * t.val + 5 := by decide +kernel
theorem off_13 : ∀ t : Fin grid1.N, k1_off13 (grid1.coords t) 0 = 8 * t.val + 6 := by decide +kernel
theorem off_15 : ∀ t : Fin grid1.N, k1_off15 (grid1.coords t) 0 = 8 * t.val + 7 := by decide +kernel

/-- The word of a table of grains at an offset. -/
theorem wordAt_grain {α : Type} (X : S4096.Idx → α) (off : Fin 1 → ℕ) (inb : ∀ a, off a + S1.size a ≤ S4096.size a) (q : ℕ) (hq : q < 4096) (h : off 0 = q) :
    wordAt X (Rect.unit (s := S4096) off S1.size inb) numel1_S1 = X (ix1 ⟨q, hq⟩) := by
  unfold wordAt
  congr 1
  funext a
  fin_cases a
  refine Fin.ext ?_
  show off 0 + 1 * _ = q
  rw [h]
  have : ∀ x : Fin 1, q + 1 * x.val = q := by intro x; have := x.isLt; omega
  exact this _

/-- The words of the table of the slope. -/
theorem wordAt_misc {α : Type} (X : S2.Idx → α) (off : Fin 1 → ℕ) (inb : ∀ a, off a + S1.size a ≤ S2.size a) (q : ℕ) (hq : q < 2) (h : off 0 = q) :
    wordAt X (Rect.unit (s := S2) off S1.size inb) numel1_S1 = X (ix1 ⟨q, hq⟩) := by
  unfold wordAt
  congr 1
  funext a
  fin_cases a
  refine Fin.ext ?_
  show off 0 + 1 * _ = q
  rw [h]
  have : ∀ x : Fin 1, q + 1 * x.val = q := by intro x; have := x.isLt; omega
  exact this _

/-- What the `q`-th grain adds at sample `n`. -/
def addG (X2 : S4096.Idx → BitVec 32) (X3 X4 : S4096.Idx → EReal) (X5 : S2.Idx → EReal) (q : Fin 4096) (n : ℕ) : EReal :=
  addK (X5 (ix1 0)) (X5 (ix1 1)) (X3 (ix1 q)) (X4 (ix1 q)) (X2 (ix1 q)).toNat n

section

variable (X2 : S4096.Idx → BitVec 32) (X3 X4 : S4096.Idx → EReal) (X5 : S2.Idx → EReal) (hX : ∀ i, (X2 i).toNat < 507904)

include hX

theorem tableStep_apply (off : Fin 1 → ℕ) (inb : ∀ a, off a + S1.size a ≤ S4096.size a) (q : ℕ) (hq : q < 4096) (h : off 0 = q)
    (X : S1x4096x128.Idx → EReal) (r : Fin 4096) (l : Fin 128) :
    tableStep (F := Ideal) X2 X3 X4 X5 (Rect.unit (s := S4096) off S1.size inb) numel1_S1 X (ix3 0 r l)
      = X (ix3 0 r l) + addG X2 X3 X4 X5 ⟨q, hq⟩ (128 * r.val + l.val) := by
  unfold tableStep
  rw [wordAt_grain X2 off inb q hq h, wordAt_grain X3 off inb q hq h, wordAt_grain X4 off inb q hq h,
    wordAt_misc X5 ![0] _ 0 (by omega) rfl, wordAt_misc X5 ![1] _ 1 (by omega) rfl]
  exact grainStep_apply _ _ _ _ _ (hX _) X r l

/-- What the `q`-th grain adds, by a number. -/
def addN (q n : ℕ) : EReal := if h : q < 4096 then addG X2 X3 X4 X5 ⟨q, h⟩ n else 0

omit hX in
theorem addN_of (q n : ℕ) (h : q < 4096) : addG X2 X3 X4 X5 ⟨q, h⟩ n = addN X2 X3 X4 X5 q n := by
  unfold addN; rw [dif_pos h]

theorem mainStep_apply (t : ℕ) (ht : t < 512) (X : S1x4096x128.Idx → EReal) (r : Fin 4096) (l : Fin 128) :
    mainStep (F := Ideal) (crd t) X2 X3 X4 X5 X (ix3 0 r l)
      = startBlock (F := Ideal) (crd t) X (ix3 0 r l) + ∑ j ∈ Finset.range 8, addN X2 X3 X4 X5 (8 * t + j) (128 * r.val + l.val) := by
  have hN : t < grid1.N := lt_of_lt_of_eq ht N_1.symm
  have hc : crd t = grid1.coords ⟨t, hN⟩ := crd_of ⟨t, hN⟩
  rw [hc]
  unfold mainStep
  rw [tableStep_apply X2 X3 X4 X5 hX _ _ (8 * t + 7) (by omega) (off_15 ⟨t, hN⟩),
    tableStep_apply X2 X3 X4 X5 hX _ _ (8 * t + 6) (by omega) (off_13 ⟨t, hN⟩),
    tableStep_apply X2 X3 X4 X5 hX _ _ (8 * t + 5) (by omega) (off_11 ⟨t, hN⟩),
    tableStep_apply X2 X3 X4 X5 hX _ _ (8 * t + 4) (by omega) (off_9 ⟨t, hN⟩),
    tableStep_apply X2 X3 X4 X5 hX _ _ (8 * t + 3) (by omega) (off_7 ⟨t, hN⟩),
    tableStep_apply X2 X3 X4 X5 hX _ _ (8 * t + 2) (by omega) (off_5 ⟨t, hN⟩),
    tableStep_apply X2 X3 X4 X5 hX _ _ (8 * t + 1) (by omega) (off_3 ⟨t, hN⟩),
    tableStep_apply X2 X3 X4 X5 hX _ _ (8 * t) (by omega) (off_1 ⟨t, hN⟩)]
  simp only [addN_of, Finset.sum_range_succ, Finset.sum_range_zero, zero_add, add_zero, add_assoc]

omit hX in
theorem startBlock_pos (i : grid1.Coords) (h : (i 1).val ≠ 0) (X : S1x4096x128.Idx → EReal) : startBlock (F := Ideal) i X = X := by
  unfold startBlock
  rw [if_neg]
  have hlt : (i 1).val < 256 := (i 1).isLt
  generalize (i 1).val = v at h hlt
  have hne : (BitVec.ofNat 32 v == 0#32) = false := by
    rw [beq_eq_false_iff_ne]
    intro e
    have := congrArg BitVec.toNat e
    simp only [BitVec.toNat_ofNat, Nat.reducePow, Nat.zero_mod] at this
    omega
  have h0 : Scalar.cmpi .eq (BitVec.ofNat 32 v) 0#32 = 0#1 := by
    show BitVec.ofBool (BitVec.ofNat 32 v == 0#32) = 0#1
    rw [hne]; rfl
  rw [h0]
  decide

theorem accB_apply (c : ℕ) (hc : c < 2) (s : ℕ) (hs : s < 256) (r : Fin 4096) (l : Fin 128) :
    accB (F := Ideal) X2 X3 X4 X5 (256 * c + s) (ix3 0 r l)
      = ∑ q ∈ Finset.range (8 * (s + 1)), addN X2 X3 X4 X5 (2048 * c + q) (128 * r.val + l.val) := by
  have hcoord : ∀ n, n < 512 → ((crd n) 1).val = n % 256 := fun n hn => by
    have hN : n < grid1.N := lt_of_lt_of_eq hn N_1.symm
    have e := coords_one ⟨n, hN⟩
    have hc' : crd n = grid1.coords ⟨n, hN⟩ := crd_of ⟨n, hN⟩
    rw [hc']; exact e
  have hz : k1_pay2 (F := Ideal) (ix3 0 r l) = 0 := by
    show Ideal.ofBits .f32 0x00000000#32 = 0
    exact Ideal.ofBits_zero_f32
  induction s with
  | zero =>
    have hfirst : accB (F := Ideal) X2 X3 X4 X5 (256 * c + 0) = mainStep (F := Ideal) (crd (256 * c + 0)) X2 X3 X4 X5 (k1_pay2 (F := Ideal)) := by
      rcases Nat.lt_or_ge c 1 with h | h
      · obtain rfl : c = 0 := by omega
        rfl
      · obtain rfl : c = 1 := by omega
        show mainStep (F := Ideal) (crd 256) X2 X3 X4 X5 (accB (F := Ideal) X2 X3 X4 X5 255) = _
        exact mainStep_zero _ (hcoord 256 (by omega)) _ _ _ _ _ _
    rw [hfirst, mainStep_apply X2 X3 X4 X5 hX _ (by omega), startBlock_zero _ ((hcoord _ (by omega)).trans (by omega)), hz, zero_add]
    refine Finset.sum_congr rfl fun j _ => ?_
    congr 1
    omega
  | succ s ih =>
    show mainStep (F := Ideal) (crd (256 * c + (s + 1))) X2 X3 X4 X5 (accB (F := Ideal) X2 X3 X4 X5 (256 * c + s)) (ix3 0 r l) = _
    rw [mainStep_apply X2 X3 X4 X5 hX _ (by omega), startBlock_pos _ (by rw [hcoord _ (by omega)]; omega), ih (by omega),
      show 8 * (s + 1 + 1) = 8 * (s + 1) + 8 by omega, Finset.sum_range_add]
    congr 1
    refine Finset.sum_congr rfl fun j _ => ?_
    congr 1
    omega

/-- A block of the result: half the grains. -/
theorem partials_apply (c : Fin 2) (r : Fin 4096) (l : Fin 128) :
    partials (F := Ideal) X2 X3 X4 X5 (ix3 c r l)
      = ∑ q ∈ Finset.range 2048, addN X2 X3 X4 X5 (2048 * c.val + q) (128 * r.val + l.val) := by
  have e : blkIx (ix3 c r l) = ix3 0 r l := by funext a; fin_cases a <;> rfl
  show accB (F := Ideal) X2 X3 X4 X5 (256 * c.val + 255) (blkIx (ix3 c r l)) = _
  rw [e]
  exact accB_apply X2 X3 X4 X5 hX c.val c.isLt 255 (by omega) r l

/-- The two blocks together: all the grains. -/
theorem partials_sum (r : Fin 4096) (l : Fin 128) :
    partials (F := Ideal) X2 X3 X4 X5 (ix3 0 r l) + partials (F := Ideal) X2 X3 X4 X5 (ix3 1 r l)
      = ∑ q : Fin 4096, addG X2 X3 X4 X5 q (128 * r.val + l.val) := by
  rw [partials_apply X2 X3 X4 X5 hX, partials_apply X2 X3 X4 X5 hX]
  have h := Finset.sum_range_add (fun q => addN X2 X3 X4 X5 q (128 * r.val + l.val)) 2048 2048
  simp only [Fin.val_zero, Fin.val_one, mul_zero, mul_one, zero_add]
  rw [← h, Finset.sum_range]
  exact Finset.sum_congr rfl fun q _ => (addN_of X2 X3 X4 X5 q.val _ q.isLt).symm

end

end Cert.KernelIdeal.Hand
-- ==== Proof.Ideal.Tables.lean ====
/- The tables of the prologue and the result of the epilogue, over the extended reals, entry by entry. -/
module

public import proofs.«01_k».proof.Proof.Ideal.Block
public import proofs.«01_k».proof.Proof.Ideal.Consts

@[expose] public section

set_option maxRecDepth 100000

noncomputable section

namespace Cert.KernelIdeal.Hand

open Cert.KernelIdeal Cert.KernelIdeal.Gen Idealize.ShloMosaic Idealize.ShloMosaic.Pointwise

/-- The slope of the chirp, from its angle. -/
def slope0 (t : EReal) : EReal :=
  Ideal.tan (t * ((Real.pi : ℝ) : EReal) * Ideal.ofBits .f32 0x3F000000#32) * Ideal.ofBits .f32 0x4065B000#32
/-- The slope, or a small number where it is zero. -/
def slopeK (t : EReal) : EReal := if slope0 t = 0 then Ideal.ofBits .f32 0x0DA24260#32 else slope0 t
/-- The amplitude of grain `q` before it is scaled. -/
def sigK (d : EReal) (q : ℕ) : EReal :=
  Ideal.div 1 (1 + Ideal.exp (Ideal.ofBits .f32 0x40000000#32 * ((1 - d) * Ideal.ofBits .f32 0x45800000#32 *
    (((q : ℝ) : EReal) * Ideal.ofBits .f32 0x39800000#32 - (Ideal.ofBits .f32 0x3E800000#32 * d + Ideal.ofBits .f32 0x3F400000#32 * d * d)))))
/-- The greatest amplitude. -/
def topK (d : EReal) : EReal :=
  Finset.fold max (Ideal.ofBits .f32 0xFF800000#32) (fun x : Fin 32 × Fin 128 => sigK d (128 * x.1.val + x.2.val)) Finset.univ

theorem misc0 (ts : S_.Idx → EReal) : miscOf (F := Ideal) ts (ix1 0) = slopeK (ts ix0) := by
  pointwise [miscOf, proMisc, k0_pay1, wordAt]
  rw [named_pi]
  rfl
theorem misc1 (ts : S_.Idx → EReal) : miscOf (F := Ideal) ts (ix1 1) = Ideal.div 1 (slopeK (ts ix0)) := by
  pointwise [miscOf, proMisc, k0_pay1, wordAt]
  rw [named_pi]
  rfl

theorem grain_toInt (a b : ℕ) (ha : a < 32) (hb : b < 128) :
    FloatOps.sitofp (F := Ideal) .f32 (IntOp.addi (IntOp.muli (BitVec.ofNat 32 a) 128#32) (BitVec.ofNat 32 b)) = (((128 * a + b : ℕ) : ℝ) : EReal) := by
  have h := place_toInt a b (by omega) hb
  show (((BitVec.ofNat 32 a * 128#32 + BitVec.ofNat 32 b).toInt : ℝ) : EReal) = _
  rw [h, Int.cast_natCast]

theorem scale (td : S_.Idx → EReal) (f0 : S4096.Idx → EReal) (q : Fin 4096) :
    scaleOf (F := Ideal) td f0 (ix1 q) = sigK (td ix0) q.val * Ideal.div 1 (topK (td ix0)) * Ideal.rsqrt (f0 (ix1 q)) := by
  pointwise [scaleOf, proScale, k0_pay2, wordAt, View.ld_unit_zero]
  rw [grain_toInt (q.val / 128) (q.val % 128) (by have := q.isLt; omega) (by omega), show 128 * (q.val / 128) + q.val % 128 = q.val by omega]
  simp only [fun x : Fin 32 × Fin 128 => grain_toInt x.1.val x.2.val x.1.isLt x.2.isLt]
  unfold topK sigK
  rfl

/-- A sample of the signal before it is scaled. -/
def sample (td ts : S_.Idx → EReal) (f0 : S4096.Idx → EReal) (o : S4096.Idx → BitVec 32) (n : ℕ) : EReal :=
  ∑ q : Fin 4096, addG o f0 (scaleOf (F := Ideal) td f0) (miscOf (F := Ideal) ts) q n

theorem result (td ts : S_.Idx → EReal) (f0 : S4096.Idx → EReal) (o : S4096.Idx → BitVec 32) (ho : ∀ i, (o i).toNat < 507904) (n : Fin 524288) :
    resultOf (F := Ideal) td ts f0 o (ix1 n)
      = sample td ts f0 o n.val * Ideal.rsqrt (∑ k : Fin 524288, sample td ts f0 o k.val * sample td ts f0 o k.val) := by
  have hs : ∀ (r : Fin 4096) (l : Fin 128), partials (F := Ideal) o f0 (scaleOf td f0) (miscOf ts) (ix3 0 r l)
      + partials (F := Ideal) o f0 (scaleOf td f0) (miscOf ts) (ix3 1 r l) = sample td ts f0 o (128 * r.val + l.val) :=
    fun r l => partials_sum o f0 (scaleOf (F := Ideal) td f0) (miscOf (F := Ideal) ts) ho r l
  unfold resultOf
  generalize partials (F := Ideal) o f0 (scaleOf td f0) (miscOf ts) = X at hs
  pointwise [epiOut, k2_pay1]
  simp only [hs]
  rw [show 128 * (n.val / 128) + n.val % 128 = n.val by omega]
  refine congrArg (fun z => sample td ts f0 o n.val * Ideal.rsqrt z) ?_
  rw [← Finset.sum_product' Finset.univ Finset.univ
    (fun (r : Fin 4096) (l : Fin 128) => sample td ts f0 o (128 * r.val + l.val) * sample td ts f0 o (128 * r.val + l.val)), Finset.univ_product_univ]
  refine Fintype.sum_equiv (finProdFinEquiv (m := 4096) (n := 128)) _ _ fun x => ?_
  have e : (finProdFinEquiv (m := 4096) (n := 128) x).val = 128 * x.1.val + x.2.val := by
    rw [finProdFinEquiv_apply_val]; omega
  show _ = sample td ts f0 o (finProdFinEquiv (m := 4096) (n := 128) x).val * sample td ts f0 o (finProdFinEquiv (m := 4096) (n := 128) x).val
  rw [e]

end Cert.KernelIdeal.Hand
-- ==== Proof.Equal.lean ====
/- The kernel's result and the reference's, over the extended reals, on the inputs the precondition admits. -/
module

public import proofs.«01_k».proof.Proof.Ref.Read
public import proofs.«01_k».proof.Proof.Ref.Mask
public import proofs.«01_k».proof.Proof.Ideal.Tables

@[expose] public section

set_option maxRecDepth 100000

noncomputable section

namespace Cert.Equal

open Idealize.ShloMosaic Idealize.ShloMosaic.Pointwise Cert.Consts Cert.ReferenceIdeal Cert.KernelIdeal.Hand Cert.ReferenceIdeal.Hand

/-- The amplitudes before they are scaled. -/
theorem sig_eq (td : S_.Idx → EReal) (q : Fin 4096) : sigK (td ix0) q.val = rawV td (ix1 q) := by
  unfold sigK
  rw [c_2, c_4096, c_quarter, c_three_quarters, c_inv_4096, ← EReal.coe_one]
  induction h : td ix0 using EReal.rec with
  | bot =>
    rw [raw_bot td q h, real_sub_bot, EReal.top_mul_coe_of_pos (by norm_num), EReal.coe_mul_bot_of_pos (by norm_num), EReal.coe_mul_bot_of_pos (by norm_num),
      EReal.bot_add, ← EReal.coe_mul, real_sub_bot, EReal.top_mul_top, EReal.coe_mul_top_of_pos (by norm_num), Ideal.exp_top, EReal.coe_add_top]
    simp [Ideal.div]
  | top =>
    rw [raw_top td q h, real_sub_top, EReal.bot_mul_coe_of_pos (by norm_num), EReal.coe_mul_top_of_pos (by norm_num), EReal.coe_mul_top_of_pos (by norm_num),
      EReal.top_mul_top, EReal.top_add_top, ← EReal.coe_mul, real_sub_top, EReal.bot_mul_bot, EReal.coe_mul_top_of_pos (by norm_num), Ideal.exp_top,
      EReal.coe_add_top]
    simp [Ideal.div]
  | coe d =>
    rw [raw_apply td q d h]
    simp only [← EReal.coe_mul, ← EReal.coe_sub, ← EReal.coe_add, Ideal.exp_coe]
    rw [Ideal.div_coe (by positivity), ← EReal.coe_mul]
    unfold argR
    simp only [one_mul, mul_one_div]

/-- The greatest amplitude. -/
theorem top_eq (td : S_.Idx → EReal) : topK (td ix0) = topR td := by
  unfold topK topR
  rw [c_neg_inf]
  refine eq_of_forall_ge_iff fun c => ?_
  rw [Finset.fold_max_le, Finset.fold_max_le]
  refine and_congr_right fun _ => ⟨fun h q _ => ?_, fun h x _ => ?_⟩
  · have := h (⟨q.val / 128, by have := q.isLt; omega⟩, ⟨q.val % 128, by omega⟩) (Finset.mem_univ _)
    simp only at this
    rw [show 128 * (q.val / 128) + q.val % 128 = q.val by omega, sig_eq] at this
    exact this
  · have hx : 128 * x.1.val + x.2.val < 4096 := by have := x.1.isLt; have := x.2.isLt; omega
    have := h ⟨_, hx⟩ (Finset.mem_univ _)
    rw [← sig_eq] at this
    exact this

/-- Of real amplitudes the greatest is a positive real. -/
theorem top_real (td : S_.Idx → EReal) (d : ℝ) (hd : td ix0 = (d : EReal)) : ∃ M : ℝ, 0 < M ∧ topR td = (M : EReal) := by
  have hlt : topR td < ⊤ := by
    unfold topR
    rw [Finset.fold_max_lt]
    exact ⟨bot_lt_top, fun q _ => by rw [raw_apply td q d hd]; exact EReal.coe_lt_top _⟩
  have hpos : 0 < topR td := by
    unfold topR
    rw [Finset.lt_fold_max]
    refine Or.inr ⟨0, Finset.mem_univ _, ?_⟩
    rw [raw_apply td 0 d hd]
    exact_mod_cast (by positivity : (0 : ℝ) < 1 / (1 + Real.exp (argR d ((0 : Fin 4096).val))))
  induction h : topR td using EReal.rec with
  | bot => rw [h] at hpos; exact absurd hpos (by simp)
  | top => rw [h] at hlt; exact absurd hlt (by simp)
  | coe M => rw [h] at hpos; exact ⟨M, by exact_mod_cast hpos, rfl⟩

/-- The slope of the kernel. -/
theorem slope_eq (ts : S_.Idx → EReal) (t γ : ℝ) (ht : ts ix0 = (t : EReal)) (hγ : slopeV ts ix0 = (γ : EReal)) (h0 : γ ≠ 0) :
    slopeK (ts ix0) = (γ : EReal) := by
  have hs : slope0 (ts ix0) = (γ : EReal) := by
    rw [← hγ, slope_apply ts t ht]
    unfold slope0
    rw [ht, c_half, c_slope, ← EReal.coe_mul, ← EReal.coe_mul, Ideal.tan_coe, ← EReal.coe_mul, mul_one_div]
  unfold slopeK
  rw [hs, if_neg (fun h => h0 (EReal.coe_eq_zero.mp h))]

/-- A grain of a real frequency and a real amplitude. -/
theorem grain_real (γ f r M : ℝ) (k : ℕ) (h0 : γ ≠ 0) (hf : 0 < f) (hM : 0 < M) :
    kval (γ : EReal) (Ideal.div 1 (γ : EReal)) (f : EReal) ((r : EReal) * Ideal.div 1 (M : EReal) * Ideal.rsqrt (f : EReal)) ((k : ℝ) : EReal)
      = Ideal.div (Ideal.sin (((2 * Real.pi : ℝ) : EReal) * (f : EReal) * (((Real.exp (γ * timeR k) - 1) * (1 / γ) : ℝ) : EReal))
          * Ideal.div (r : EReal) (M : EReal) * ((wrootR k * wrootR k : ℝ) : EReal)) (Ideal.sqrt (f : EReal)) := by
  have hs : Real.sqrt f ≠ 0 := (Real.sqrt_pos.mpr hf).ne'
  unfold kval cyc wroot
  rw [Ideal.rsqrt_coe, if_neg (not_lt.mpr hf.le), if_neg hf.ne', Ideal.sqrt_coe, if_neg (not_lt.mpr hf.le), c_half_win, ← EReal.coe_one, ← EReal.coe_zero]
  simp only [Ideal.div_coe h0, Ideal.div_coe hM.ne', Ideal.div_coe hs, ← EReal.coe_mul, ← EReal.coe_sub, ← EReal.coe_add, Ideal.exp_coe, Ideal.liftRound_coe,
    Ideal.sin_coe]
  refine congrArg (fun z : ℝ => (z : EReal)) ?_
  have hw : Real.sin (k * (1 / 32768) * (2 * Real.pi)) = wrootR k := by
    unfold wrootR
    refine congrArg Real.sin ?_
    ring
  have he : k * (γ * (1 / 44100)) + (0 - γ) * (2048 / 11025) = γ * timeR k := by
    unfold timeR
    ring
  rw [hw, he, sub_mul, Real.sin_sub_int_mul_two_pi]
  rw [show f * (1 * (1 / γ)) * (Real.exp (γ * timeR k) - 1) * (2 * Real.pi) = 2 * Real.pi * f * ((Real.exp (γ * timeR k) - 1) * (1 / γ)) by ring]
  ring

/-- A grain of infinite frequency, or of no amplitude, is nothing. -/
theorem kval_zero (g ig f k : EReal) : kval g ig f 0 k = 0 := by
  unfold kval
  rw [zero_mul, zero_mul]

theorem div_top (x : EReal) : Ideal.div x ⊤ = 0 := by
  simp [Ideal.div]

/-- One that is nothing or infinite. -/
def Wild (x : EReal) : Prop := x = 0 ∨ x = ⊤ ∨ x = ⊥

theorem Wild.add {x y : EReal} (hx : Wild x) (hy : Wild y) : Wild (x + y) := by
  rcases hx with rfl | rfl | rfl <;> rcases hy with rfl | rfl | rfl <;> simp [Wild]

theorem Wild.mul {x : EReal} (hx : Wild x) (r : ℝ) : Wild (x * (r : EReal)) := by
  rcases hx with rfl | rfl | rfl
  · exact Or.inl (zero_mul _)
  · rcases lt_trichotomy r 0 with h | rfl | h
    · exact Or.inr (Or.inr (EReal.top_mul_coe_of_neg h))
    · exact Or.inl (by simp)
    · exact Or.inr (Or.inl (EReal.top_mul_coe_of_pos h))
  · rcases lt_trichotomy r 0 with h | rfl | h
    · exact Or.inr (Or.inl (EReal.bot_mul_coe_of_neg h))
    · exact Or.inl (by simp)
    · exact Or.inr (Or.inr (EReal.bot_mul_coe_of_pos h))

theorem Wild.sq {x : EReal} (hx : Wild x) : x * x = 0 ∨ x * x = ⊤ := by
  rcases hx with rfl | rfl | rfl
  · exact Or.inl (zero_mul _)
  · exact Or.inr EReal.top_mul_top
  · exact Or.inr EReal.bot_mul_bot

/-- Dividing by a root that is positive is multiplying by its inverse. -/
theorem mul_rsqrt (a ss : EReal) (h : 0 < Ideal.sqrt ss) : a * Ideal.rsqrt ss = Ideal.div a (Ideal.sqrt ss) := by
  induction ss using EReal.rec with
  | bot => exact absurd h (by simp)
  | top => rw [Ideal.sqrt_top, div_top, Ideal.rsqrt_top, mul_zero]
  | coe s =>
    rw [Ideal.sqrt_coe] at h ⊢
    by_cases hs : s < 0
    · rw [if_pos hs] at h
      exact absurd h (by simp)
    · rw [if_neg hs] at h ⊢
      have h1 : 0 < Real.sqrt s := by exact_mod_cast h
      have h2 : s ≠ 0 := (Real.sqrt_pos.mp h1).ne'
      rw [Ideal.rsqrt_coe, if_neg hs, if_neg h2, Ideal.div_coe h1.ne', one_div]

/-- At an infinite angle of the slope the signal is silent. -/
theorem norm_inf (td ts : S_.Idx → EReal) (f0 : S4096.Idx → EReal) (o : IVec S4096 32) (ht : ts ix0 = ⊤ ∨ ts ix0 = ⊥)
    (hf : ∀ q : Fin 4096, 0 < f0 (ix1 q)) (ho : ∀ i, (o i).toNat < 507904) : normV (signalV td ts f0 o) ix0 = 0 := by
  have hg : ∀ (q : Fin 4096) (k : Fin 16384), grainsV td ts f0 (ix2 q k) = 0 := by
    intro q k
    rw [grains_apply, phase_inf ts k (slope_inf ts ht), mul_zero, ← EReal.coe_zero, Ideal.sin_coe, Real.sin_zero, EReal.coe_zero, zero_mul, zero_mul]
    have hq := hf q
    induction h : f0 (ix1 q) using EReal.rec with
    | bot => rw [h] at hq; exact absurd hq (by simp)
    | top => rw [Ideal.sqrt_top, div_top]
    | coe f =>
      rw [h] at hq
      have hf' : 0 < f := by exact_mod_cast hq
      rw [Ideal.sqrt_coe, if_neg (not_lt.mpr hf'.le), Ideal.div_coe (Real.sqrt_pos.mpr hf').ne', zero_mul]
  have hz : ∀ n : Fin 524288, signalV td ts f0 o (ix1 n) = 0 := by
    intro n
    rw [signal_apply td ts f0 o ho n]
    refine Finset.sum_eq_zero fun q _ => ?_
    split
    · exact hg q _
    · rfl
  rw [norm_apply]
  simp only [hz, mul_zero]
  rw [Finset.sum_const_zero, ← EReal.coe_zero, Ideal.sqrt_coe]
  simp

section

variable (td ts : S_.Idx → EReal) (f0 : S4096.Idx → EReal) (o : IVec S4096 32) (t γ : ℝ) (ht : ts ix0 = (t : EReal)) (hγ : slopeV ts ix0 = (γ : EReal))
  (h0 : γ ≠ 0) (hf : ∀ q : Fin 4096, 0 < f0 (ix1 q)) (ho : ∀ i, (o i).toNat < 507904)

include ht hγ h0 hf

/-- At a real density every grain of the kernel is the reference's. -/
theorem grain_eq (d : ℝ) (hd : td ix0 = (d : EReal)) (q : Fin 4096) (k : Fin 16384) :
    kval (miscOf (F := Ideal) ts (ix1 0)) (miscOf (F := Ideal) ts (ix1 1)) (f0 (ix1 q)) (scaleOf (F := Ideal) td f0 (ix1 q)) ((k.val : ℝ) : EReal)
      = grainsV td ts f0 (ix2 q k) := by
  obtain ⟨M, hM, hT⟩ := top_real td d hd
  rw [grains_apply, amp_apply, phase_apply ts k γ hγ h0, misc0, misc1, slope_eq ts t γ ht hγ h0, scale, top_eq, sig_eq, raw_apply td q d hd, hT]
  have hq := hf q
  induction h : f0 (ix1 q) using EReal.rec with
  | bot => rw [h] at hq; exact absurd hq (by simp)
  | top => rw [Ideal.rsqrt_top, mul_zero, kval_zero, Ideal.sqrt_top, div_top]
  | coe f =>
    rw [h] at hq
    exact grain_real γ f _ M k.val h0 (by exact_mod_cast hq) hM

include ho

theorem sample_eq (d : ℝ) (hd : td ix0 = (d : EReal)) (n : Fin 524288) : sample td ts f0 o n.val = signalV td ts f0 o (ix1 n) := by
  rw [signal_apply td ts f0 o ho n]
  unfold sample
  refine Finset.sum_congr rfl fun q _ => ?_
  unfold addG addK
  by_cases h : (o (ix1 q)).toNat ≤ n.val ∧ n.val < (o (ix1 q)).toNat + 16384
  · rw [dif_pos h, if_pos h]
    exact grain_eq td ts f0 t γ ht hγ h0 hf d hd q ⟨n.val - (o (ix1 q)).toNat, by omega⟩
  · rw [dif_neg h, if_neg h]

omit ho

/-- At an infinite density a grain of the reference is nothing or infinite. -/
theorem grain_wild (hd : ∀ q : Fin 4096, rawV td (ix1 q) = 0) (q : Fin 4096) (k : Fin 16384) : Wild (grainsV td ts f0 (ix2 q k)) := by
  have hT : topR td = 0 := by
    unfold topR
    simp only [hd]
    refine le_antisymm ?_ ?_
    · rw [Finset.fold_max_le]
      exact ⟨bot_le, fun _ _ => le_refl _⟩
    · rw [Finset.le_fold_max]
      exact Or.inr ⟨0, Finset.mem_univ _, le_refl _⟩
  rw [grains_apply, amp_apply, phase_apply ts k γ hγ h0, hd, hT]
  have hq := hf q
  induction h : f0 (ix1 q) using EReal.rec with
  | bot => rw [h] at hq; exact absurd hq (by simp)
  | top => rw [Ideal.sqrt_top, div_top]; exact Or.inl rfl
  | coe f =>
    rw [h] at hq
    have hf' : 0 < f := by exact_mod_cast hq
    have hs : Real.sqrt f ≠ 0 := (Real.sqrt_pos.mpr hf').ne'
    rw [Ideal.sqrt_coe, if_neg (not_lt.mpr hf'.le), Ideal.div_coe hs, ← EReal.coe_mul, ← EReal.coe_mul, Ideal.sin_coe, mul_comm (_ : EReal) (Ideal.div 0 0)]
    have hb : Wild (Ideal.div 0 0) := by simp [Wild, Ideal.div]
    exact ((hb.mul _).mul _).mul _

include ho

theorem signal_wild (hd : ∀ q : Fin 4096, rawV td (ix1 q) = 0) (n : Fin 524288) : Wild (signalV td ts f0 o (ix1 n)) := by
  rw [signal_apply td ts f0 o ho n]
  refine Finset.sum_induction _ Wild (fun _ _ h h' => h.add h') (Or.inl rfl) fun q _ => ?_
  split
  · exact grain_wild td ts f0 t γ ht hγ h0 hf hd q _
  · exact Or.inl rfl

/-- At an infinite density the reference's result is nothing. -/
theorem result_wild (hd : ∀ q : Fin 4096, rawV td (ix1 q) = 0) (hn : 0 < normV (signalV td ts f0 o) ix0) (n : Fin 524288) :
    resultV td ts f0 o (ix1 n) = 0 := by
  rw [result_apply]
  rw [norm_apply] at hn ⊢
  have hs : (∑ n : Fin 524288, signalV td ts f0 o (ix1 n) * signalV td ts f0 o (ix1 n)) = 0
      ∨ (∑ n : Fin 524288, signalV td ts f0 o (ix1 n) * signalV td ts f0 o (ix1 n)) = ⊤ := by
    refine Finset.sum_induction _ (fun x : EReal => x = 0 ∨ x = ⊤) ?_ (Or.inl rfl) fun n _ => (signal_wild td ts f0 o t γ ht hγ h0 hf ho hd n).sq
    rintro x y (rfl | rfl) (rfl | rfl) <;> simp
  generalize (∑ n : Fin 524288, signalV td ts f0 o (ix1 n) * signalV td ts f0 o (ix1 n)) = S at hs hn ⊢
  rcases hs with rfl | rfl
  · rw [← EReal.coe_zero, Ideal.sqrt_coe] at hn
    exact absurd hn (by simp)
  · rw [Ideal.sqrt_top, div_top]

omit ht hγ h0 hf ho in
theorem sample_zero (hd : ∀ q : Fin 4096, rawV td (ix1 q) = 0) (n : ℕ) : sample td ts f0 o n = 0 := by
  unfold sample
  refine Finset.sum_eq_zero fun q _ => ?_
  unfold addG addK
  rw [scale, sig_eq, hd, zero_mul, zero_mul, kval_zero, ite_self]

theorem result_eq (hn : 0 < normV (signalV td ts f0 o) ix0) (n : Fin 524288) :
    resultOf (F := Ideal) td ts f0 o (ix1 n) = resultV td ts f0 o (ix1 n) := by
  rw [result td ts f0 o ho n]
  have wild : (∀ q : Fin 4096, rawV td (ix1 q) = 0) →
      sample td ts f0 o n.val * Ideal.rsqrt (∑ k : Fin 524288, sample td ts f0 o k.val * sample td ts f0 o k.val) = resultV td ts f0 o (ix1 n) := by
    intro hd
    rw [result_wild td ts f0 o t γ ht hγ h0 hf ho hd hn n, sample_zero td ts f0 o hd n.val, zero_mul]
  induction h : td ix0 using EReal.rec with
  | bot => exact wild fun q => raw_bot td q h
  | top => exact wild fun q => raw_top td q h
  | coe d =>
    simp only [sample_eq td ts f0 o t γ ht hγ h0 hf ho d h]
    rw [result_apply]
    rw [norm_apply] at hn ⊢
    exact mul_rsqrt _ _ hn

end

/-- On the inputs the precondition admits the two results are one. -/
theorem results (td ts : S_.Idx → EReal) (f0 : S4096.Idx → EReal) (o : IVec S4096 32)
    (h : Cert.Pre_admissible.fn (F := Ideal) td ts f0 o = fun _ => 1#1) :
    resultOf (F := Ideal) td ts f0 o = resultV td ts f0 o := by
  have hm := mask_holds td ts f0 o h
  obtain ⟨_, hz, _, hn⟩ := hm 0
  have ho : ∀ i, (o i).toNat < 507904 := fun i => by
    rw [eq_ix1 i]
    exact (hm _).1
  have hf : ∀ q : Fin 4096, 0 < f0 (ix1 q) := fun q => (hm q).2.2.1
  obtain ⟨t, ht'⟩ : ∃ t : ℝ, ts ix0 = (t : EReal) := by
    induction h : ts ix0 using EReal.rec with
    | bot => exact absurd (norm_inf td ts f0 o (Or.inr h) hf ho) hn.ne'
    | top => exact absurd (norm_inf td ts f0 o (Or.inl h) hf ho) hn.ne'
    | coe t => exact ⟨t, rfl⟩
  have hγ := slope_apply ts t ht'
  have h0 : Real.tan (t * Real.pi / 2) * (3675 / 1024) ≠ 0 := by
    intro hc
    rw [hc] at hγ
    exact hz hγ
  funext i
  rw [eq_ix1 i]
  exact result_eq td ts f0 o t _ ht' hγ h0 hf ho hn _

end Cert.Equal
-- ==== Proof.lean ====
/- The proof of the claims that `Cert.Claim` states: the programs run, leave their arguments unchanged and every counter at
   zero; the named constants are the rounded ones of the program; over the extended reals, on the inputs the precondition
   admits, the kernel's result is the reference's. -/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_onsets_in_range
public import proofs.«01_k».proof.Proof.Ideal.Range
public import proofs.«01_k».proof.Proof.Bits.Range
public import proofs.«01_k».proof.Proof.Ref.Admissible
public import proofs.«01_k».proof.Proof.Equal
public import Idealize.ShloMosaic.Adequacy
public import Idealize.ShloMosaic.Init

@[expose] public section

noncomputable section

namespace Cert.Proof

open Idealize.ShloMosaic Idealize.SL.Sem

/-- The kernel runs on machine words. -/
theorem kernel_runs : @Cert.quiescent_Kernel Cert.Kernel.Gen.facts Cert.Pre_onsets_in_range.Gen.facts := fun m g hp =>
  (θ_run Cert.Kernel.defs _ _).mono (fun _ h => ⟨fun c => (h.1 c).2, h.2⟩)
    (Cert.Kernel.Hand.run m g fun c => Cert.Kernel.Hand.inRange_of_lt _ (Cert.Kernel.Hand.inRange_of_pre _ _ _ _ (hp c)))

/-- The kernel runs over the extended reals. -/
theorem ideal_runs : @Cert.quiescent_KernelIdeal Cert.KernelIdeal.Gen.facts Cert.Pre_onsets_in_range.Gen.facts := fun m g hp =>
  (θ_run Cert.KernelIdeal.defs _ _).mono (fun _ h => ⟨fun c => (h.1 c).2, h.2⟩)
    (Cert.KernelIdeal.Hand.run m g fun c => Cert.KernelIdeal.Hand.inRange_of_lt _ (Cert.KernelIdeal.Hand.inRange_of_pre _ _ _ _ (hp c)))

/-- The reference runs over the extended reals. -/
theorem reference_runs : @Cert.quiescent_ReferenceIdeal Cert.ReferenceIdeal.Gen.facts := fun m g _ =>
  (θ_run Cert.ReferenceIdeal.defs _ _).mono (fun r h => ⟨fun c => (h c).2, sem_eq_zero_of_no_sems (by decide) r.2⟩)
    (Cert.ReferenceIdeal.Value.run (F := Ideal) m g)

/-- The named constants round to the words the program has in their places. -/
theorem constants : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

theorem inRange_of_admissible (m : (ℓ : Loc Cert.KernelIdeal.nD Cert.KernelIdeal.τ Cert.KernelIdeal.sig) → Buf (Elt Ideal) ℓ)
    (hp : @Cert.Pre_KernelIdeal_admissible Cert.Pre_admissible.Hand.facts m) (c : Dev Cert.KernelIdeal.nD) :
    Cert.KernelIdeal.Hand.InRange (F := Ideal) (m ((c.tc : Thread Cert.KernelIdeal.nD Cert.KernelIdeal.τ).loc Cert.KernelIdeal.main_arg3)) :=
  Cert.KernelIdeal.Hand.inRange_of_lt _ fun i => by
    rw [eq_ix1 i]
    exact (Cert.ReferenceIdeal.Hand.mask_holds _ _ _ _ (hp c) _).1

/-- The kernel runs on the inputs where it is compared with the reference. -/
theorem ideal_runs_admissible : @Cert.quiescent_KernelIdeal_pre_admissible Cert.KernelIdeal.Gen.facts Cert.Pre_admissible.Hand.facts := fun m g hp =>
  (θ_run Cert.KernelIdeal.defs _ _).mono (fun _ h => ⟨fun c => (h.1 c).2, h.2⟩)
    (Cert.KernelIdeal.Hand.run m g (inRange_of_admissible m hp))

/-- The reference runs on the inputs where the kernel is compared with it. -/
theorem reference_runs_admissible : @Cert.quiescent_ReferenceIdeal_pre_admissible Cert.ReferenceIdeal.Gen.facts Cert.Pre_admissible.Hand.facts := fun m g _ =>
  reference_runs m g trivial

/-- The kernel's result is the reference's. -/
theorem equal : @Cert.algebraic_KernelIdeal_ReferenceIdeal_pre_admissible Cert.KernelIdeal.Gen.facts Cert.ReferenceIdeal.Gen.facts
    Cert.Pre_admissible.Hand.facts := by
  intro m g m' g' hp hagree
  refine ⟨_, (θ_run Cert.KernelIdeal.defs _ _).mono (fun _ h => h.1) (Cert.KernelIdeal.Hand.run m g (inRange_of_admissible m hp)), ?_⟩
  refine (θ_run Cert.ReferenceIdeal.defs _ _).mono (fun _ h c => ⟨(h c).1.trans ?_, (h c).2⟩) (Cert.ReferenceIdeal.Value.run (F := Ideal) m' g')
  obtain ⟨h0, h1, h2, h3⟩ := hagree c
  rw [Cert.ReferenceIdeal.Hand.res_eq, h0, h1, h2, h3]
  exact (Cert.Equal.results _ _ _ _ (hp c)).symm

theorem claim : Cert.Claim := ⟨Cert.Kernel.Gen.facts, Cert.KernelIdeal.Gen.facts, Cert.ReferenceIdeal.Gen.facts, Cert.Pre_onsets_in_range.Gen.facts,
  Cert.Pre_admissible.Hand.facts, kernel_runs, ideal_runs, ideal_runs_admissible, reference_runs, reference_runs_admissible, constants, equal⟩

end Cert.Proof

end
